-- ==== Defs.lean ====
def Pre_Kernel [hPre_indices : Cert.Pre_indices.Facts] (m : (ℓ : Loc Cert.Kernel.nD Cert.Kernel.τ Cert.Kernel.sig) → Buf (Elt Bits) ℓ) : Prop :=
  ∀ c : Dev Cert.Kernel.nD,
    (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_indices : Cert.Pre_indices.Facts] (m : (ℓ : Loc Cert.KernelIdeal.nD Cert.KernelIdeal.τ Cert.KernelIdeal.sig) → Buf (Elt Ideal) ℓ) : Prop :=
  ∀ c : Dev Cert.KernelIdeal.nD,
    (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelIdeal_indices_and_table [hPre_indices_and_table : Cert.Pre_indices_and_table.Facts] (m : (ℓ : Loc Cert.KernelIdeal.nD Cert.KernelIdeal.τ Cert.KernelIdeal.sig) → Buf (Elt Ideal) ℓ) : Prop :=
  ∀ c : Dev Cert.KernelIdeal.nD,
    (Cert.Pre_indices_and_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_indices_and_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_indices_and_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_and_table [hPre_indices_and_table : Cert.Pre_indices_and_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_and_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_indices_and_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_indices_and_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] [hPre_indices : Cert.Pre_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_indices : Cert.Pre_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_indices_and_table [hKernelIdeal : Cert.KernelIdeal.Facts] [hPre_indices_and_table : Cert.Pre_indices_and_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_and_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_indices_and_table [hReferenceIdeal : Cert.ReferenceIdeal.Facts] [hPre_indices_and_table : Cert.Pre_indices_and_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_and_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_indices_and_table [hKernelIdeal : Cert.KernelIdeal.Facts] [hReferenceIdeal : Cert.ReferenceIdeal.Facts] [hPre_indices_and_table : Cert.Pre_indices_and_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_and_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices : Cert.Pre_indices.Facts) (hPre_indices_and_table : Cert.Pre_indices_and_table.Facts),
    quiescent_Kernel (hKernel := hKernel) (hPre_indices := hPre_indices)
    ∧ quiescent_KernelIdeal (hKernelIdeal := hKernelIdeal) (hPre_indices := hPre_indices)
    ∧ quiescent_KernelIdeal_pre_indices_and_table (hKernelIdeal := hKernelIdeal) (hPre_indices_and_table := hPre_indices_and_table)
    ∧ quiescent_ReferenceIdeal (hReferenceIdeal := hReferenceIdeal)
    ∧ quiescent_ReferenceIdeal_pre_indices_and_table (hReferenceIdeal := hReferenceIdeal) (hPre_indices_and_table := hPre_indices_and_table)
    ∧ preserves_Kernel_KernelIdeal
    ∧ algebraic_KernelIdeal_ReferenceIdeal_pre_indices_and_table (hKernelIdeal := hKernelIdeal) (hReferenceIdeal := hReferenceIdeal) (hPre_indices_and_table := hPre_indices_and_table)
-- ==== Pre_indices.lean ====
abbrev S524288 : Shape := ⟨1, ![524288]⟩
abbrev S49152 : Shape := ⟨1, ![49152]⟩
abbrev S768x256 : Shape := ⟨2, ![768, 256]⟩
abbrev S_ : Shape := ⟨0, ![]⟩
abbrev S524287 : Shape := ⟨1, ![524287]⟩

class Facts : Prop where
  bcast_S_S524288 : S_.BroadcastsInDim S524288 (![] : Fin 0 → Fin S524288.rank)
  slices_S524288_S524287_0 : S524288.Slices ![0] S524287
  slices_S524288_S524287_1 : S524288.Slices ![1] S524287

variable [Facts]

def fn {F : FTy → Type} [FloatOps F] (main_arg0 : IVec S524288 32) (main_arg1 : IVec S524288 32) (main_arg2 : FVec F S524288 .f32) (main_arg3 : IVec S49152 32) (main_arg4 : FVec F S768x256 .f32) : IVec S524288 1 × IVec S524287 1 :=
  let main_c : IVec S_ 32 := constantI S_ 32 0#32
  let main_v0 : IVec S524288 32 := broadcastInDim S524288 ![] bcast_S_S524288 main_c
  let main_v1 : IVec S524288 1 := cmpi .sge main_arg0 main_v0
  let main_c_0 : IVec S_ 32 := constantI S_ 32 16384#32
  let main_v2 : IVec S524288 32 := broadcastInDim S524288 ![] bcast_S_S524288 main_c_0
  let main_v3 : IVec S524288 1 := cmpi .slt main_arg0 main_v2
  let main_v4 : IVec S524288 1 := andi main_v1 main_v3
  let main_c_1 : IVec S_ 32 := constantI S_ 32 0#32
  let main_v5 : IVec S524288 32 := broadcastInDim S524288 ![] bcast_S_S524288 main_c_1
  let main_v6 : IVec S524288 1 := cmpi .sge main_arg1 main_v5
  let main_v7 : IVec S524288 1 := andi main_v4 main_v6
  let main_c_2 : IVec S_ 32 := constantI S_ 32 49152#32
  let main_v8 : IVec S524288 32 := broadcastInDim S524288 ![] bcast_S_S524288 main_c_2
  let main_v9 : IVec S524288 1 := cmpi .slt main_arg1 main_v8
  let main_v10 : IVec S524288 1 := andi main_v7 main_v9
  let main_v11 : IVec S524287 32 := (extractStridedSlice S524287 ![0] · slices_S524288_S524287_0) main_arg0
  let main_v12 : IVec S524287 32 := (extractStridedSlice S524287 ![1] · slices_S524288_S524287_1) main_arg0
  let main_v13 : IVec S524287 1 := cmpi .sle main_v11 main_v12
  (main_v10, main_v13)
-- ==== Pre_indices_and_table.lean ====
abbrev S524288 : Shape := ⟨1, ![524288]⟩
abbrev S49152 : Shape := ⟨1, ![49152]⟩
abbrev S768x256 : Shape := ⟨2, ![768, 256]⟩
abbrev S_ : Shape := ⟨0, ![]⟩
abbrev S524287 : Shape := ⟨1, ![524287]⟩

class Facts : Prop where
  bcast_S_S524288 : S_.BroadcastsInDim S524288 (![] : Fin 0 → Fin S524288.rank)
  bcast_S_S49152 : S_.BroadcastsInDim S49152 (![] : Fin 0 → Fin S49152.rank)
  slices_S524288_S524287_0 : S524288.Slices ![0] S524287
  slices_S524288_S524287_1 : S524288.Slices ![1] S524287

variable [Facts]

def fn {F : FTy → Type} [FloatOps F] (main_arg0 : IVec S524288 32) (main_arg1 : IVec S524288 32) (main_arg2 : FVec F S524288 .f32) (main_arg3 : IVec S49152 32) (main_arg4 : FVec F S768x256 .f32) : IVec S524288 1 × IVec S524287 1 × IVec S49152 1 :=
  let main_c : IVec S_ 32 := constantI S_ 32 0#32
  let main_v0 : IVec S524288 32 := broadcastInDim S524288 ![] bcast_S_S524288 main_c
  let main_v1 : IVec S524288 1 := cmpi .sge main_arg0 main_v0
  let main_c_0 : IVec S_ 32 := constantI S_ 32 16384#32
  let main_v2 : IVec S524288 32 := broadcastInDim S524288 ![] bcast_S_S524288 main_c_0
  let main_v3 : IVec S524288 1 := cmpi .slt main_arg0 main_v2
  let main_v4 : IVec S524288 1 := andi main_v1 main_v3
  let main_c_1 : IVec S_ 32 := constantI S_ 32 0#32
  let main_v5 : IVec S524288 32 := broadcastInDim S524288 ![] bcast_S_S524288 main_c_1
  let main_v6 : IVec S524288 1 := cmpi .sge main_arg1 main_v5
  let main_v7 : IVec S524288 1 := andi main_v4 main_v6
  let main_c_2 : IVec S_ 32 := constantI S_ 32 49152#32
  let main_v8 : IVec S524288 32 := broadcastInDim S524288 ![] bcast_S_S524288 main_c_2
  let main_v9 : IVec S524288 1 := cmpi .slt main_arg1 main_v8
  let main_v10 : IVec S524288 1 := andi main_v7 main_v9
  let main_v11 : IVec S49152 32 := iotaInDim S49152 32 0
  let main_c_3 : IVec S_ 32 := constantI S_ 32 768#32
  let main_v12 : IVec S49152 32 := broadcastInDim S49152 ![] bcast_S_S49152 main_c_3
  let main_v13 : IVec S49152 32 := Host.remsi main_v11 main_v12
  let main_v14 : IVec S49152 1 := cmpi .eq main_arg3 main_v13
  let main_v15 : IVec S524287 32 := (extractStridedSlice S524287 ![0] · slices_S524288_S524287_0) main_arg0
  let main_v16 : IVec S524287 32 := (extractStridedSlice S524287 ![1] · slices_S524288_S524287_1) main_arg0
  let main_v17 : IVec S524287 1 := cmpi .sle main_v15 main_v16
  (main_v10, main_v17, main_v14)
-- ==== Kernel.lean ====
abbrev S524288 : Shape := ⟨1, ![524288]⟩
abbrev S49152 : Shape := ⟨1, ![49152]⟩
abbrev S768x256 : Shape := ⟨2, ![768, 256]⟩
abbrev S129 : Shape := ⟨1, ![129]⟩
abbrev S_ : Shape := ⟨0, ![]⟩
abbrev S1x129 : Shape := ⟨2, ![1, 129]⟩
abbrev S524288x1 : Shape := ⟨2, ![524288, 1]⟩
abbrev S524288x129 : Shape := ⟨2, ![524288, 129]⟩
abbrev S32 : Shape := ⟨1, ![32]⟩
abbrev S32x1 : Shape := ⟨2, ![32, 1]⟩
abbrev S16 : Shape := ⟨1, ![16]⟩
abbrev S1x16 : Shape := ⟨2, ![1, 16]⟩
abbrev S32x16 : Shape := ⟨2, ![32, 16]⟩
abbrev S32x16x1 : Shape := ⟨3, ![32, 16, 1]⟩
abbrev S16384x768 : Shape := ⟨2, ![16384, 768]⟩
abbrev S2048 : Shape := ⟨1, ![2048]⟩
abbrev S128x768 : Shape := ⟨2, ![128, 768]⟩
abbrev S1 : Shape := ⟨1, ![1]⟩
abbrev S16384x256 : Shape := ⟨2, ![16384, 256]⟩
abbrev S1024x768 : Shape := ⟨2, ![1024, 768]⟩
abbrev S1024x256 : Shape := ⟨2, ![1024, 256]⟩

abbrev nBuf : Table → Nat
  | .hbm => 49
  | .local .tc .vmem => 5
  | .local .scVector .vmem => 5
  | _ => 0

abbrev bufTy : (tb : Table) → Fin (nBuf tb) → BufTy
  | .hbm, ⟨0, _⟩ => ⟨S524288, .i32⟩
  | .hbm, ⟨1, _⟩ => ⟨S524288, .i32⟩
  | .hbm, ⟨2, _⟩ => ⟨S524288, .f32⟩
  | .hbm, ⟨3, _⟩ => ⟨S49152, .i32⟩
  | .hbm, ⟨4, _⟩ => ⟨S768x256, .f32⟩
  | .hbm, ⟨5, _⟩ => ⟨S129, .i32⟩
  | .hbm, ⟨6, _⟩ => ⟨S_, .i32⟩
  | .hbm, ⟨7, _⟩ => ⟨S129, .i32⟩
  | .hbm, ⟨8, _⟩ => ⟨S129, .i32⟩
  | .hbm, ⟨9, _⟩ => ⟨S_, .i32⟩
  | .hbm, ⟨10, _⟩ => ⟨S129, .i32⟩
  | .hbm, ⟨11, _⟩ => ⟨S129, .i32⟩
  | .hbm, ⟨12, _⟩ => ⟨S1x129, .i32⟩
  | .hbm, ⟨13, _⟩ => ⟨S524288x1, .i32⟩
  | .hbm, ⟨14, _⟩ => ⟨S524288x129, .i32⟩
  | .hbm, ⟨15, _⟩ => ⟨S524288x129, .i32⟩
  | .hbm, ⟨16, _⟩ => ⟨S524288x129, .i1⟩
  | .hbm, ⟨17, _⟩ => ⟨S524288x129, .i32⟩
  | .hbm, ⟨18, _⟩ => ⟨S_, .i32⟩
  | .hbm, ⟨19, _⟩ => ⟨S129, .i32⟩
  | .hbm, ⟨20, _⟩ => ⟨S32, .i32⟩
  | .hbm, ⟨21, _⟩ => ⟨S32x1, .i32⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S16, .i32⟩
  | .hbm, ⟨26, _⟩ => ⟨S1x16, .i32⟩
  | .hbm, ⟨27, _⟩ => ⟨S32x16, .i32⟩
  | .hbm, ⟨28, _⟩ => ⟨S32x16, .i32⟩
  | .hbm, ⟨29, _⟩ => ⟨S32x16, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S32x16, .i32⟩
  | .hbm, ⟨34, _⟩ => ⟨S32x16, .i32⟩
  | .hbm, ⟨35, _⟩ => ⟨S_, .i32⟩
  | .hbm, ⟨36, _⟩ => ⟨S32x16, .i32⟩
  | .hbm, ⟨37, _⟩ => ⟨S32x16, .i32⟩
  | .hbm, ⟨38, _⟩ => ⟨S_, .i32⟩
  | .hbm, ⟨39, _⟩ => ⟨S32x16, .i32⟩
  | .hbm, ⟨40, _⟩ => ⟨S32x16, .i1⟩
  | .hbm, ⟨41, _⟩ => ⟨S_, .i32⟩
  | .hbm, ⟨42, _⟩ => ⟨S32x16, .i32⟩
  | .hbm, ⟨43, _⟩ => ⟨S32x16, .i32⟩
  | .hbm, ⟨44, _⟩ => ⟨S32x16, .i32⟩
  | .hbm, ⟨45, _⟩ => ⟨S32x16x1, .i32⟩
  | .hbm, ⟨46, _⟩ => ⟨S32x16, .i32⟩
  | .hbm, ⟨47, _⟩ => ⟨S16384x768, .f32⟩
  | .hbm, ⟨48, _⟩ => ⟨S16384x256, .f32⟩
  | .local .tc .vmem, ⟨0, _⟩ => ⟨S1024x768, .f32⟩
  | .local .tc .vmem, ⟨1, _⟩ => ⟨S1024x768, .f32⟩
  | .local .tc .vmem, ⟨2, _⟩ => ⟨S768x256, .f32⟩
  | .local .tc .vmem, ⟨3, _⟩ => ⟨S1024x256, .f32⟩
  | .local .tc .vmem, ⟨4, _⟩ => ⟨S1024x256, .f32⟩
  | .local .scVector .vmem, ⟨0, _⟩ => ⟨S16, .i32⟩
  | .local .scVector .vmem, ⟨1, _⟩ => ⟨S2048, .i32⟩
  | .local .scVector .vmem, ⟨2, _⟩ => ⟨S2048, .i32⟩
  | .local .scVector .vmem, ⟨3, _⟩ => ⟨S2048, .f32⟩
  | .local .scVector .vmem, ⟨4, _⟩ => ⟨S128x768, .f32⟩
  | _, _ => ⟨S524288, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v22_scv : Ref sig .scVector := ⟨.hbm, 46, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v23_scv : Ref sig .scVector := ⟨.hbm, 47, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 29
abbrev cc1_sem0_1 : DmaSem sig := 30
abbrev cc1_sem1_0 : DmaSem sig := 31
abbrev cc1_sem2_0 : DmaSem sig := 32
abbrev cc1_sem2_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_113_r0 : BitVec 32 := 0#32
  ![v1.toNat, 0]
@[reducible] def k0_t1_loop : Scf.Loop 32 :=
  let c0_i32_1 : BitVec 32 := 0#32
  let c128_i32_2 : BitVec 32 := 128#32
  let v11 : BitVec 32 := Scalar.addi c0_i32_1 c128_i32_2
  let c1_i32 : BitVec 32 := 1#32
  ⟨c0_i32_1, v11, c1_i32⟩
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v221 : Index := Scalar.indexCast arg12
  let c0_113 : Index := 0#32
  ![v221.toNat, 0]
def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v224 : Index := Scalar.indexCast arg12
  let c16 : Index := 16#32
  ![v224.toNat, 16]
def k0_off4 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v227 : Index := Scalar.indexCast arg12
  let c32 : Index := 32#32
  ![v227.toNat, 32]
def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v230 : Index := Scalar.indexCast arg12
  let c48 : Index := 48#32
  ![v230.toNat, 48]
def k0_off6 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v233 : Index := Scalar.indexCast arg12
  let c64 : Index := 64#32
  ![v233.toNat, 64]
def k0_off7 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v236 : Index := Scalar.indexCast arg12
  let c80 : Index := 80#32
  ![v236.toNat, 80]
def k0_off8 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v239 : Index := Scalar.indexCast arg12
  let c96 : Index := 96#32
  ![v239.toNat, 96]
def k0_off9 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v242 : Index := Scalar.indexCast arg12
  let c112 : Index := 112#32
  ![v242.toNat, 112]
def k0_off10 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v245 : Index := Scalar.indexCast arg12
  let c128 : Index := 128#32
  ![v245.toNat, 128]
def k0_off11 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v248 : Index := Scalar.indexCast arg12
  let c144 : Index := 144#32
  ![v248.toNat, 144]
def k0_off12 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v251 : Index := Scalar.indexCast arg12
  let c160 : Index := 160#32
  ![v251.toNat, 160]
def k0_off13 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v254 : Index := Scalar.indexCast arg12
  let c176 : Index := 176#32
  ![v254.toNat, 176]
def k0_off14 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v257 : Index := Scalar.indexCast arg12
  let c192 : Index := 192#32
  ![v257.toNat, 192]
def k0_off15 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v260 : Index := Scalar.indexCast arg12
  let c208 : Index := 208#32
  ![v260.toNat, 208]
def k0_off16 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v263 : Index := Scalar.indexCast arg12
  let c224 : Index := 224#32
  ![v263.toNat, 224]
def k0_off17 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v266 : Index := Scalar.indexCast arg12
  let c240 : Index := 240#32
  ![v266.toNat, 240]
def k0_off18 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v269 : Index := Scalar.indexCast arg12
  let c256 : Index := 256#32
  ![v269.toNat, 256]
def k0_off19 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v272 : Index := Scalar.indexCast arg12
  let c272 : Index := 272#32
  ![v272.toNat, 272]
def k0_off20 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v275 : Index := Scalar.indexCast arg12
  let c288 : Index := 288#32
  ![v275.toNat, 288]
def k0_off21 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v278 : Index := Scalar.indexCast arg12
  let c304 : Index := 304#32
  ![v278.toNat, 304]
def k0_off22 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v281 : Index := Scalar.indexCast arg12
  let c320 : Index := 320#32
  ![v281.toNat, 320]
def k0_off23 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v284 : Index := Scalar.indexCast arg12
  let c336 : Index := 336#32
  ![v284.toNat, 336]
def k0_off24 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v287 : Index := Scalar.indexCast arg12
  let c352 : Index := 352#32
  ![v287.toNat, 352]
def k0_off25 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v290 : Index := Scalar.indexCast arg12
  let c368 : Index := 368#32
  ![v290.toNat, 368]
def k0_off26 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v293 : Index := Scalar.indexCast arg12
  let c384 : Index := 384#32
  ![v293.toNat, 384]
def k0_off27 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v296 : Index := Scalar.indexCast arg12
  let c400 : Index := 400#32
  ![v296.toNat, 400]
def k0_off28 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v299 : Index := Scalar.indexCast arg12
  let c416 : Index := 416#32
  ![v299.toNat, 416]
def k0_off29 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v302 : Index := Scalar.indexCast arg12
  let c432 : Index := 432#32
  ![v302.toNat, 432]
def k0_off30 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v305 : Index := Scalar.indexCast arg12
  let c448 : Index := 448#32
  ![v305.toNat, 448]
def k0_off31 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v308 : Index := Scalar.indexCast arg12
  let c464 : Index := 464#32
  ![v308.toNat, 464]
def k0_off32 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v311 : Index := Scalar.indexCast arg12
  let c480 : Index := 480#32
  ![v311.toNat, 480]
def k0_off33 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v314 : Index := Scalar.indexCast arg12
  let c496 : Index := 496#32
  ![v314.toNat, 496]
def k0_off34 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v317 : Index := Scalar.indexCast arg12
  let c512 : Index := 512#32
  ![v317.toNat, 512]
def k0_off35 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v320 : Index := Scalar.indexCast arg12
  let c528 : Index := 528#32
  ![v320.toNat, 528]
def k0_off36 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v323 : Index := Scalar.indexCast arg12
  let c544 : Index := 544#32
  ![v323.toNat, 544]
def k0_off37 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v326 : Index := Scalar.indexCast arg12
  let c560 : Index := 560#32
  ![v326.toNat, 560]
def k0_off38 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v329 : Index := Scalar.indexCast arg12
  let c576 : Index := 576#32
  ![v329.toNat, 576]
def k0_off39 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v332 : Index := Scalar.indexCast arg12
  let c592 : Index := 592#32
  ![v332.toNat, 592]
def k0_off40 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v335 : Index := Scalar.indexCast arg12
  let c608 : Index := 608#32
  ![v335.toNat, 608]
def k0_off41 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v338 : Index := Scalar.indexCast arg12
  let c624 : Index := 624#32
  ![v338.toNat, 624]
def k0_off42 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v341 : Index := Scalar.indexCast arg12
  let c640 : Index := 640#32
  ![v341.toNat, 640]
def k0_off43 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v344 : Index := Scalar.indexCast arg12
  let c656 : Index := 656#32
  ![v344.toNat, 656]
def k0_off44 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v347 : Index := Scalar.indexCast arg12
  let c672 : Index := 672#32
  ![v347.toNat, 672]
def k0_off45 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v350 : Index := Scalar.indexCast arg12
  let c688 : Index := 688#32
  ![v350.toNat, 688]
def k0_off46 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v353 : Index := Scalar.indexCast arg12
  let c704 : Index := 704#32
  ![v353.toNat, 704]
def k0_off47 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v356 : Index := Scalar.indexCast arg12
  let c720 : Index := 720#32
  ![v356.toNat, 720]
def k0_off48 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v359 : Index := Scalar.indexCast arg12
  let c736 : Index := 736#32
  ![v359.toNat, 736]
def k0_off49 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v362 : Index := Scalar.indexCast arg12
  let c752 : Index := 752#32
  ![v362.toNat, 752]
@[reducible] def k0_t2_loop (v5 : BitVec 32) (v7 : BitVec 32) : Scf.Loop 32 :=
  let c0_i32_19 : BitVec 32 := 0#32
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let v31 : BitVec 32 := Scalar.subi v7 v30
  let c2048_i32 : BitVec 32 := 2048#32
  let v32 : BitVec 32 := Scalar.addi v31 c2048_i32
  let c1_i32_11 : BitVec 32 := 1#32
  let v33 : BitVec 32 := Scalar.subi v32 c1_i32_11
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2048_i32_12 : BitVec 32 := 2048#32
  let c0_i32_15 : BitVec 32 := 0#32
  let v40 : BitVec 1 := Scalar.cmpi .sgt c2048_i32_12 c0_i32_15
  let v41 : BitVec 32 := Scalar.extui v40
  let c0_i32_16 : BitVec 32 := 0#32
  let v42 : BitVec 1 := Scalar.cmpi .slt c2048_i32_12 c0_i32_16
  let v43 : BitVec 32 := Scalar.extui v42
  let v44 : BitVec 32 := Scalar.subi v41 v43
  let v45 : BitVec 1 := Scalar.cmpi .ne v39 v44
  let v46 : BitVec 32 := Scalar.remsi v33 c2048_i32_12
  let c0_i32_17 : BitVec 32 := 0#32
  let v47 : BitVec 1 := Scalar.cmpi .ne v46 c0_i32_17
  let v48 : BitVec 1 := Scalar.andi v45 v47
  let v34 : BitVec 32 := Scalar.divsi v33 c2048_i32_12
  let c1_i32_18 : BitVec 32 := 1#32
  let v49 : BitVec 32 := Scalar.subi v34 c1_i32_18
  let v50 : BitVec 32 := Scalar.select v48 v49 v34
  let v51 : BitVec 32 := Scalar.subi v50 c0_i32_19
  let c1_i32_21 : BitVec 32 := 1#32
  let v53 : BitVec 32 := Scalar.divsi v51 c1_i32_21
  let v54 : BitVec 32 := Scalar.muli v53 c1_i32_21
  let v55 : BitVec 32 := Scalar.addi c0_i32_19 v54
  let c1_i32_22 : BitVec 32 := 1#32
  ⟨c0_i32_19, v55, c1_i32_22⟩

def k0_mult1 (v5 : BitVec 32) (v7 : BitVec 32) (k0_t2 : Fin (k0_t2_loop v5 v7).trips) : BitVec 32 :=
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let c0_i32_19 : BitVec 32 := 0#32
  let c1_i32_22 : BitVec 32 := 1#32
  let arg12 : BitVec 32 := Scf.iv c0_i32_19 c1_i32_22 k0_t2
  let c2048_i32_113 : BitVec 32 := 2048#32
  let v220 : BitVec 32 := Scalar.muli arg12 c2048_i32_113
  let v221 : BitVec 32 := Scalar.addi v30 v220
  let c522240_i32 : BitVec 32 := 522240#32
  let v222 : BitVec 32 := Scalar.minsi v221 c522240_i32
  v222
def k0_off50 (v5 : BitVec 32) (v7 : BitVec 32) (k0_t2 : Fin (k0_t2_loop v5 v7).trips) : Fin 1 → Nat :=
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let c0_i32_19 : BitVec 32 := 0#32
  let c1_i32_22 : BitVec 32 := 1#32
  let arg12 : BitVec 32 := Scf.iv c0_i32_19 c1_i32_22 k0_t2
  let c2048_i32_113 : BitVec 32 := 2048#32
  let v220 : BitVec 32 := Scalar.muli arg12 c2048_i32_113
  let v221 : BitVec 32 := Scalar.addi v30 v220
  let c522240_i32 : BitVec 32 := 522240#32
  let v222 : BitVec 32 := Scalar.minsi v221 c522240_i32
  let v223 : BitVec 32 := v222
  ![v223.toNat]
@[reducible] def k0_t3_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off51 (k0_t3 : Fin k0_t3_loop.trips) : Fin 1 → Nat :=
  let c0_i32_116 : BitVec 32 := 0#32
  let c1_i32_118 : BitVec 32 := 1#32
  let arg14 : BitVec 32 := Scf.iv c0_i32_116 c1_i32_118 k0_t3
  let c16_i32 : BitVec 32 := 16#32
  let v229 : BitVec 32 := Scalar.muli arg14 c16_i32
  let v230 : Index := Scalar.indexCast v229
  ![v230.toNat]

def k0_chk2 (v248 : IVec S16 32) (v252 : IVec S16 32) : Prop :=
  (∀ a x, ((![v252, v248] : Fin 2 → IVec S16 32) a x).toNat < S128x768.size a)
theorem k0_idx1_inb : ∀ (v248 : IVec S16 32) (v252 : IVec S16 32) (k0_hw2 : k0_chk2 v248 v252), ∀ a x, ((![v252, v248] : Fin 2 → IVec S16 32) a x).toNat < S128x768.size a := fun v248 v252 k0_hw2 => k0_hw2
@[reducible] def k0_t4_loop (v5 : BitVec 32) (v7 : BitVec 32) : Scf.Loop 32 :=
  let c0_i32_19 : BitVec 32 := 0#32
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let v31 : BitVec 32 := Scalar.subi v7 v30
  let c2048_i32 : BitVec 32 := 2048#32
  let v32 : BitVec 32 := Scalar.addi v31 c2048_i32
  let c1_i32_11 : BitVec 32 := 1#32
  let v33 : BitVec 32 := Scalar.subi v32 c1_i32_11
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2048_i32_12 : BitVec 32 := 2048#32
  let c0_i32_15 : BitVec 32 := 0#32
  let v40 : BitVec 1 := Scalar.cmpi .sgt c2048_i32_12 c0_i32_15
  let v41 : BitVec 32 := Scalar.extui v40
  let c0_i32_16 : BitVec 32 := 0#32
  let v42 : BitVec 1 := Scalar.cmpi .slt c2048_i32_12 c0_i32_16
  let v43 : BitVec 32 := Scalar.extui v42
  let v44 : BitVec 32 := Scalar.subi v41 v43
  let v45 : BitVec 1 := Scalar.cmpi .ne v39 v44
  let v46 : BitVec 32 := Scalar.remsi v33 c2048_i32_12
  let c0_i32_17 : BitVec 32 := 0#32
  let v47 : BitVec 1 := Scalar.cmpi .ne v46 c0_i32_17
  let v48 : BitVec 1 := Scalar.andi v45 v47
  let v34 : BitVec 32 := Scalar.divsi v33 c2048_i32_12
  let c1_i32_18 : BitVec 32 := 1#32
  let v49 : BitVec 32 := Scalar.subi v34 c1_i32_18
  let v50 : BitVec 32 := Scalar.select v48 v49 v34
  let v51 : BitVec 32 := Scalar.subi v50 c0_i32_19
  let c1_i32_21 : BitVec 32 := 1#32
  let v53 : BitVec 32 := Scalar.divsi v51 c1_i32_21
  let v54 : BitVec 32 := Scalar.muli v53 c1_i32_21
  let v55 : BitVec 32 := Scalar.addi c0_i32_19 v54
  let v52 : BitVec 32 := Scalar.addi c0_i32_19 v51
  let c1_i32_23 : BitVec 32 := 1#32
  ⟨v55, v52, c1_i32_23⟩
def k0_mult2 (v5 : BitVec 32) (v7 : BitVec 32) (k0_t4 : Fin (k0_t4_loop v5 v7).trips) : BitVec 32 :=
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let c0_i32_19 : BitVec 32 := 0#32
  let v31 : BitVec 32 := Scalar.subi v7 v30
  let c2048_i32 : BitVec 32 := 2048#32
  let v32 : BitVec 32 := Scalar.addi v31 c2048_i32
  let c1_i32_11 : BitVec 32 := 1#32
  let v33 : BitVec 32 := Scalar.subi v32 c1_i32_11
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2048_i32_12 : BitVec 32 := 2048#32
  let c0_i32_15 : BitVec 32 := 0#32
  let v40 : BitVec 1 := Scalar.cmpi .sgt c2048_i32_12 c0_i32_15
  let v41 : BitVec 32 := Scalar.extui v40
  let c0_i32_16 : BitVec 32 := 0#32
  let v42 : BitVec 1 := Scalar.cmpi .slt c2048_i32_12 c0_i32_16
  let v43 : BitVec 32 := Scalar.extui v42
  let v44 : BitVec 32 := Scalar.subi v41 v43
  let v45 : BitVec 1 := Scalar.cmpi .ne v39 v44
  let v46 : BitVec 32 := Scalar.remsi v33 c2048_i32_12
  let c0_i32_17 : BitVec 32 := 0#32
  let v47 : BitVec 1 := Scalar.cmpi .ne v46 c0_i32_17
  let v48 : BitVec 1 := Scalar.andi v45 v47
  let v34 : BitVec 32 := Scalar.divsi v33 c2048_i32_12
  let c1_i32_18 : BitVec 32 := 1#32
  let v49 : BitVec 32 := Scalar.subi v34 c1_i32_18
  let v50 : BitVec 32 := Scalar.select v48 v49 v34
  let v51 : BitVec 32 := Scalar.subi v50 c0_i32_19
  let c1_i32_21 : BitVec 32 := 1#32
  let v53 : BitVec 32 := Scalar.divsi v51 c1_i32_21
  let v54 : BitVec 32 := Scalar.muli v53 c1_i32_21
  let v55 : BitVec 32 := Scalar.addi c0_i32_19 v54
  let c1_i32_23 : BitVec 32 := 1#32
  let arg12 : BitVec 32 := Scf.iv v55 c1_i32_23 k0_t4
  let c2048_i32_113 : BitVec 32 := 2048#32
  let v220 : BitVec 32 := Scalar.muli arg12 c2048_i32_113
  let v221 : BitVec 32 := Scalar.addi v30 v220
  let c522240_i32 : BitVec 32 := 522240#32
  let v222 : BitVec 32 := Scalar.minsi v221 c522240_i32
  v222
def k0_off52 (v5 : BitVec 32) (v7 : BitVec 32) (k0_t4 : Fin (k0_t4_loop v5 v7).trips) : Fin 1 → Nat :=
  let c0_i32_4 : BitVec 32 := 0#32
  let v14 : BitVec 1 := Scalar.cmpi .sgt v5 c0_i32_4
  let v15 : BitVec 32 := Scalar.extui v14
  let c0_i32_5 : BitVec 32 := 0#32
  let v16 : BitVec 1 := Scalar.cmpi .slt v5 c0_i32_5
  let v17 : BitVec 32 := Scalar.extui v16
  let v18 : BitVec 32 := Scalar.subi v15 v17
  let c8_i32 : BitVec 32 := 8#32
  let c0_i32_6 : BitVec 32 := 0#32
  let v19 : BitVec 1 := Scalar.cmpi .sgt c8_i32 c0_i32_6
  let v20 : BitVec 32 := Scalar.extui v19
  let c0_i32_7 : BitVec 32 := 0#32
  let v21 : BitVec 1 := Scalar.cmpi .slt c8_i32 c0_i32_7
  let v22 : BitVec 32 := Scalar.extui v21
  let v23 : BitVec 32 := Scalar.subi v20 v22
  let v24 : BitVec 1 := Scalar.cmpi .ne v18 v23
  let v25 : BitVec 32 := Scalar.remsi v5 c8_i32
  let c0_i32_8 : BitVec 32 := 0#32
  let v26 : BitVec 1 := Scalar.cmpi .ne v25 c0_i32_8
  let v27 : BitVec 1 := Scalar.andi v24 v26
  let v13 : BitVec 32 := Scalar.divsi v5 c8_i32
  let c1_i32_9 : BitVec 32 := 1#32
  let v28 : BitVec 32 := Scalar.subi v13 c1_i32_9
  let v29 : BitVec 32 := Scalar.select v27 v28 v13
  let c8_i32_10 : BitVec 32 := 8#32
  let v30 : BitVec 32 := Scalar.muli v29 c8_i32_10
  let c0_i32_19 : BitVec 32 := 0#32
  let v31 : BitVec 32 := Scalar.subi v7 v30
  let c2048_i32 : BitVec 32 := 2048#32
  let v32 : BitVec 32 := Scalar.addi v31 c2048_i32
  let c1_i32_11 : BitVec 32 := 1#32
  let v33 : BitVec 32 := Scalar.subi v32 c1_i32_11
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2048_i32_12 : BitVec 32 := 2048#32
  let c0_i32_15 : BitVec 32 := 0#32
  let v40 : BitVec 1 := Scalar.cmpi .sgt c2048_i32_12 c0_i32_15
  let v41 : BitVec 32 := Scalar.extui v40
  let c0_i32_16 : BitVec 32 := 0#32
  let v42 : BitVec 1 := Scalar.cmpi .slt c2048_i32_12 c0_i32_16
  let v43 : BitVec 32 := Scalar.extui v42
  let v44 : BitVec 32 := Scalar.subi v41 v43
  let v45 : BitVec 1 := Scalar.cmpi .ne v39 v44
  let v46 : BitVec 32 := Scalar.remsi v33 c2048_i32_12
  let c0_i32_17 : BitVec 32 := 0#32
  let v47 : BitVec 1 := Scalar.cmpi .ne v46 c0_i32_17
  let v48 : BitVec 1 := Scalar.andi v45 v47
  let v34 : BitVec 32 := Scalar.divsi v33 c2048_i32_12
  let c1_i32_18 : BitVec 32 := 1#32
  let v49 : BitVec 32 := Scalar.subi v34 c1_i32_18
  let v50 : BitVec 32 := Scalar.select v48 v49 v34
  let v51 : BitVec 32 := Scalar.subi v50 c0_i32_19
  let c1_i32_21 : BitVec 32 := 1#32
  let v53 : BitVec 32 := Scalar.divsi v51 c1_i32_21
  let v54 : BitVec 32 := Scalar.muli v53 c1_i32_21
  let v55 : BitVec 32 := Scalar.addi c0_i32_19 v54
  let c1_i32_23 : BitVec 32 := 1#32
  let arg12 : BitVec 32 := Scf.iv v55 c1_i32_23 k0_t4
  let c2048_i32_113 : BitVec 32 := 2048#32
  let v220 : BitVec 32 := Scalar.muli arg12 c2048_i32_113
  let v221 : BitVec 32 := Scalar.addi v30 v220
  let c522240_i32 : BitVec 32 := 522240#32
  let v222 : BitVec 32 := Scalar.minsi v221 c522240_i32
  let v223 : BitVec 32 := v222
  ![v223.toNat]

def k0_chk1 (v5 : BitVec 32) (v7 : BitVec 32) : Prop :=
  ((k0_t2_loop v5 v7).OK) ∧
  (∀ k0_t2 : Fin (k0_t2_loop v5 v7).trips, 8 ∣ (k0_mult1 v5 v7 k0_t2).toNat) ∧
  (∀ k0_t2 : Fin (k0_t2_loop v5 v7).trips, ∀ a, (k0_off50 v5 v7 k0_t2) a + S2048.size a ≤ S524288.size a) ∧
  ((k0_t4_loop v5 v7).OK) ∧
  (∀ k0_t4 : Fin (k0_t4_loop v5 v7).trips, 8 ∣ (k0_mult2 v5 v7 k0_t4).toNat) ∧
  (∀ k0_t4 : Fin (k0_t4_loop v5 v7).trips, ∀ a, (k0_off52 v5 v7 k0_t4) a + S2048.size a ≤ S524288.size a)
theorem k0_t2_ok : ∀ (v5 : BitVec 32) (v7 : BitVec 32) (k0_hw1 : k0_chk1 v5 v7), (k0_t2_loop v5 v7).OK := fun v5 v7 k0_hw1 => k0_hw1.1
theorem k0_mult1_dvd : ∀ (v5 : BitVec 32) (v7 : BitVec 32) (k0_hw1 : k0_chk1 v5 v7) (k0_t2 : Fin (k0_t2_loop v5 v7).trips), 8 ∣ (k0_mult1 v5 v7 k0_t2).toNat := fun v5 v7 k0_hw1 k0_t2 => k0_hw1.2.1 k0_t2
theorem k0_off50_inb : ∀ (v5 : BitVec 32) (v7 : BitVec 32) (k0_hw1 : k0_chk1 v5 v7) (k0_t2 : Fin (k0_t2_loop v5 v7).trips), ∀ a, (k0_off50 v5 v7 k0_t2) a + S2048.size a ≤ S524288.size a := fun v5 v7 k0_hw1 k0_t2 => k0_hw1.2.2.1 k0_t2
theorem k0_t4_ok : ∀ (v5 : BitVec 32) (v7 : BitVec 32) (k0_hw1 : k0_chk1 v5 v7), (k0_t4_loop v5 v7).OK := fun v5 v7 k0_hw1 => k0_hw1.2.2.2.1
theorem k0_mult2_dvd : ∀ (v5 : BitVec 32) (v7 : BitVec 32) (k0_hw1 : k0_chk1 v5 v7) (k0_t4 : Fin (k0_t4_loop v5 v7).trips), 8 ∣ (k0_mult2 v5 v7 k0_t4).toNat := fun v5 v7 k0_hw1 k0_t4 => k0_hw1.2.2.2.2.1 k0_t4
theorem k0_off52_inb : ∀ (v5 : BitVec 32) (v7 : BitVec 32) (k0_hw1 : k0_chk1 v5 v7) (k0_t4 : Fin (k0_t4_loop v5 v7).trips), ∀ a, (k0_off52 v5 v7 k0_t4) a + S2048.size a ≤ S524288.size a := fun v5 v7 k0_hw1 k0_t4 => k0_hw1.2.2.2.2.2 k0_t4

@[reducible] def k0_t5_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off53 (k0_t5 : Fin k0_t5_loop.trips) : Fin 1 → Nat :=
  let c0_i32_116 : BitVec 32 := 0#32
  let c1_i32_118 : BitVec 32 := 1#32
  let arg14 : BitVec 32 := Scf.iv c0_i32_116 c1_i32_118 k0_t5
  let c16_i32 : BitVec 32 := 16#32
  let v229 : BitVec 32 := Scalar.muli arg14 c16_i32
  let v230 : Index := Scalar.indexCast v229
  ![v230.toNat]

def k0_chk3 (v248 : IVec S16 32) (v252 : IVec S16 32) : Prop :=
  (∀ a x, ((![v252, v248] : Fin 2 → IVec S16 32) a x).toNat < S128x768.size a)
theorem k0_idx2_inb : ∀ (v248 : IVec S16 32) (v252 : IVec S16 32) (k0_hw3 : k0_chk3 v248 v252), ∀ a x, ((![v252, v248] : Fin 2 → IVec S16 32) a x).toNat < S128x768.size a := fun v248 v252 k0_hw3 => k0_hw3
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v8 : BitVec 32 := Scalar.muli v1 c4_i32
  let c0_i32 : BitVec 32 := 0#32
  let v9 : BitVec 32 := Scalar.addi v8 c0_i32
  let c128_i32 : BitVec 32 := 128#32
  let v10 : BitVec 32 := Scalar.muli v9 c128_i32
  let c0_i32_113_r7 : BitVec 32 := 0#32
  ![v10.toNat, 0]
@[reducible] def k0_t6_loop : Scf.Loop 32 :=
  let c0_i32_28 : BitVec 32 := 0#32
  let c128_i32_29 : BitVec 32 := 128#32
  let v65 : BitVec 32 := Scalar.addi c0_i32_28 c128_i32_29
  let c1_i32_30 : BitVec 32 := 1#32
  ⟨c0_i32_28, v65, c1_i32_30⟩
def k0_off55 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v221 : Index := Scalar.indexCast arg12
  let c0_113 : Index := 0#32
  ![v221.toNat, 0]
def k0_off56 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v224 : Index := Scalar.indexCast arg12
  let c16 : Index := 16#32
  ![v224.toNat, 16]
def k0_off57 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v227 : Index := Scalar.indexCast arg12
  let c32 : Index := 32#32
  ![v227.toNat, 32]
def k0_off58 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v230 : Index := Scalar.indexCast arg12
  let c48 : Index := 48#32
  ![v230.toNat, 48]
def k0_off59 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v233 : Index := Scalar.indexCast arg12
  let c64 : Index := 64#32
  ![v233.toNat, 64]
def k0_off60 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v236 : Index := Scalar.indexCast arg12
  let c80 : Index := 80#32
  ![v236.toNat, 80]
def k0_off61 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v239 : Index := Scalar.indexCast arg12
  let c96 : Index := 96#32
  ![v239.toNat, 96]
def k0_off62 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v242 : Index := Scalar.indexCast arg12
  let c112 : Index := 112#32
  ![v242.toNat, 112]
def k0_off63 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v245 : Index := Scalar.indexCast arg12
  let c128 : Index := 128#32
  ![v245.toNat, 128]
def k0_off64 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v248 : Index := Scalar.indexCast arg12
  let c144 : Index := 144#32
  ![v248.toNat, 144]
def k0_off65 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v251 : Index := Scalar.indexCast arg12
  let c160 : Index := 160#32
  ![v251.toNat, 160]
def k0_off66 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v254 : Index := Scalar.indexCast arg12
  let c176 : Index := 176#32
  ![v254.toNat, 176]
def k0_off67 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v257 : Index := Scalar.indexCast arg12
  let c192 : Index := 192#32
  ![v257.toNat, 192]
def k0_off68 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v260 : Index := Scalar.indexCast arg12
  let c208 : Index := 208#32
  ![v260.toNat, 208]
def k0_off69 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v263 : Index := Scalar.indexCast arg12
  let c224 : Index := 224#32
  ![v263.toNat, 224]
def k0_off70 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v266 : Index := Scalar.indexCast arg12
  let c240 : Index := 240#32
  ![v266.toNat, 240]
def k0_off71 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v269 : Index := Scalar.indexCast arg12
  let c256 : Index := 256#32
  ![v269.toNat, 256]
def k0_off72 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v272 : Index := Scalar.indexCast arg12
  let c272 : Index := 272#32
  ![v272.toNat, 272]
def k0_off73 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v275 : Index := Scalar.indexCast arg12
  let c288 : Index := 288#32
  ![v275.toNat, 288]
def k0_off74 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v278 : Index := Scalar.indexCast arg12
  let c304 : Index := 304#32
  ![v278.toNat, 304]
def k0_off75 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v281 : Index := Scalar.indexCast arg12
  let c320 : Index := 320#32
  ![v281.toNat, 320]
def k0_off76 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v284 : Index := Scalar.indexCast arg12
  let c336 : Index := 336#32
  ![v284.toNat, 336]
def k0_off77 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v287 : Index := Scalar.indexCast arg12
  let c352 : Index := 352#32
  ![v287.toNat, 352]
def k0_off78 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v290 : Index := Scalar.indexCast arg12
  let c368 : Index := 368#32
  ![v290.toNat, 368]
def k0_off79 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v293 : Index := Scalar.indexCast arg12
  let c384 : Index := 384#32
  ![v293.toNat, 384]
def k0_off80 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v296 : Index := Scalar.indexCast arg12
  let c400 : Index := 400#32
  ![v296.toNat, 400]
def k0_off81 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v299 : Index := Scalar.indexCast arg12
  let c416 : Index := 416#32
  ![v299.toNat, 416]
def k0_off82 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v302 : Index := Scalar.indexCast arg12
  let c432 : Index := 432#32
  ![v302.toNat, 432]
def k0_off83 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v305 : Index := Scalar.indexCast arg12
  let c448 : Index := 448#32
  ![v305.toNat, 448]
def k0_off84 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v308 : Index := Scalar.indexCast arg12
  let c464 : Index := 464#32
  ![v308.toNat, 464]
def k0_off85 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v311 : Index := Scalar.indexCast arg12
  let c480 : Index := 480#32
  ![v311.toNat, 480]
def k0_off86 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v314 : Index := Scalar.indexCast arg12
  let c496 : Index := 496#32
  ![v314.toNat, 496]
def k0_off87 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v317 : Index := Scalar.indexCast arg12
  let c512 : Index := 512#32
  ![v317.toNat, 512]
def k0_off88 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v320 : Index := Scalar.indexCast arg12
  let c528 : Index := 528#32
  ![v320.toNat, 528]
def k0_off89 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v323 : Index := Scalar.indexCast arg12
  let c544 : Index := 544#32
  ![v323.toNat, 544]
def k0_off90 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v326 : Index := Scalar.indexCast arg12
  let c560 : Index := 560#32
  ![v326.toNat, 560]
def k0_off91 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v329 : Index := Scalar.indexCast arg12
  let c576 : Index := 576#32
  ![v329.toNat, 576]
def k0_off92 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v332 : Index := Scalar.indexCast arg12
  let c592 : Index := 592#32
  ![v332.toNat, 592]
def k0_off93 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v335 : Index := Scalar.indexCast arg12
  let c608 : Index := 608#32
  ![v335.toNat, 608]
def k0_off94 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v338 : Index := Scalar.indexCast arg12
  let c624 : Index := 624#32
  ![v338.toNat, 624]
def k0_off95 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v341 : Index := Scalar.indexCast arg12
  let c640 : Index := 640#32
  ![v341.toNat, 640]
def k0_off96 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v344 : Index := Scalar.indexCast arg12
  let c656 : Index := 656#32
  ![v344.toNat, 656]
def k0_off97 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v347 : Index := Scalar.indexCast arg12
  let c672 : Index := 672#32
  ![v347.toNat, 672]
def k0_off98 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v350 : Index := Scalar.indexCast arg12
  let c688 : Index := 688#32
  ![v350.toNat, 688]
def k0_off99 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v353 : Index := Scalar.indexCast arg12
  let c704 : Index := 704#32
  ![v353.toNat, 704]
def k0_off100 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v356 : Index := Scalar.indexCast arg12
  let c720 : Index := 720#32
  ![v356.toNat, 720]
def k0_off101 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v359 : Index := Scalar.indexCast arg12
  let c736 : Index := 736#32
  ![v359.toNat, 736]
def k0_off102 (k0_t6 : Fin k0_t6_loop.trips) : Fin 2 → Nat :=
  let c0_i32_28 : BitVec 32 := 0#32
  let c1_i32_30 : BitVec 32 := 1#32
  let arg12 : BitVec 32 := Scf.iv c0_i32_28 c1_i32_30 k0_t6
  let v362 : Index := Scalar.indexCast arg12
  let c752 : Index := 752#32
  ![v362.toNat, 752]
@[reducible] def k0_t7_loop (v59 : BitVec 32) (v61 : BitVec 32) : Scf.Loop 32 :=
  let c0_i32_49 : BitVec 32 := 0#32
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let v85 : BitVec 32 := Scalar.subi v61 v84
  let c2048_i32_40 : BitVec 32 := 2048#32
  let v86 : BitVec 32 := Scalar.addi v85 c2048_i32_40
  let c1_i32_41 : BitVec 32 := 1#32
  let v87 : BitVec 32 := Scalar.subi v86 c1_i32_41
  let c0_i32_43 : BitVec 32 := 0#32
  let v89 : BitVec 1 := Scalar.cmpi .sgt v87 c0_i32_43
  let v90 : BitVec 32 := Scalar.extui v89
  let c0_i32_44 : BitVec 32 := 0#32
  let v91 : BitVec 1 := Scalar.cmpi .slt v87 c0_i32_44
  let v92 : BitVec 32 := Scalar.extui v91
  let v93 : BitVec 32 := Scalar.subi v90 v92
  let c2048_i32_42 : BitVec 32 := 2048#32
  let c0_i32_45 : BitVec 32 := 0#32
  let v94 : BitVec 1 := Scalar.cmpi .sgt c2048_i32_42 c0_i32_45
  let v95 : BitVec 32 := Scalar.extui v94
  let c0_i32_46 : BitVec 32 := 0#32
  let v96 : BitVec 1 := Scalar.cmpi .slt c2048_i32_42 c0_i32_46
  let v97 : BitVec 32 := Scalar.extui v96
  let v98 : BitVec 32 := Scalar.subi v95 v97
  let v99 : BitVec 1 := Scalar.cmpi .ne v93 v98
  let v100 : BitVec 32 := Scalar.remsi v87 c2048_i32_42
  let c0_i32_47 : BitVec 32 := 0#32
  let v101 : BitVec 1 := Scalar.cmpi .ne v100 c0_i32_47
  let v102 : BitVec 1 := Scalar.andi v99 v101
  let v88 : BitVec 32 := Scalar.divsi v87 c2048_i32_42
  let c1_i32_48 : BitVec 32 := 1#32
  let v103 : BitVec 32 := Scalar.subi v88 c1_i32_48
  let v104 : BitVec 32 := Scalar.select v102 v103 v88
  let v105 : BitVec 32 := Scalar.subi v104 c0_i32_49
  let c1_i32_51 : BitVec 32 := 1#32
  let v107 : BitVec 32 := Scalar.divsi v105 c1_i32_51
  let v108 : BitVec 32 := Scalar.muli v107 c1_i32_51
  let v109 : BitVec 32 := Scalar.addi c0_i32_49 v108
  let c1_i32_52 : BitVec 32 := 1#32
  ⟨c0_i32_49, v109, c1_i32_52⟩

def k0_mult3 (v59 : BitVec 32) (v61 : BitVec 32) (k0_t7 : Fin (k0_t7_loop v59 v61).trips) : BitVec 32 :=
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let c0_i32_49 : BitVec 32 := 0#32
  let c1_i32_52 : BitVec 32 := 1#32
  let arg12 : BitVec 32 := Scf.iv c0_i32_49 c1_i32_52 k0_t7
  let c2048_i32_113 : BitVec 32 := 2048#32
  let v220 : BitVec 32 := Scalar.muli arg12 c2048_i32_113
  let v221 : BitVec 32 := Scalar.addi v84 v220
  let c522240_i32 : BitVec 32 := 522240#32
  let v222 : BitVec 32 := Scalar.minsi v221 c522240_i32
  v222
def k0_off103 (v59 : BitVec 32) (v61 : BitVec 32) (k0_t7 : Fin (k0_t7_loop v59 v61).trips) : Fin 1 → Nat :=
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let c0_i32_49 : BitVec 32 := 0#32
  let c1_i32_52 : BitVec 32 := 1#32
  let arg12 : BitVec 32 := Scf.iv c0_i32_49 c1_i32_52 k0_t7
  let c2048_i32_113 : BitVec 32 := 2048#32
  let v220 : BitVec 32 := Scalar.muli arg12 c2048_i32_113
  let v221 : BitVec 32 := Scalar.addi v84 v220
  let c522240_i32 : BitVec 32 := 522240#32
  let v222 : BitVec 32 := Scalar.minsi v221 c522240_i32
  let v223 : BitVec 32 := v222
  ![v223.toNat]
@[reducible] def k0_t8_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off104 (k0_t8 : Fin k0_t8_loop.trips) : Fin 1 → Nat :=
  let c0_i32_116 : BitVec 32 := 0#32
  let c1_i32_118 : BitVec 32 := 1#32
  let arg14 : BitVec 32 := Scf.iv c0_i32_116 c1_i32_118 k0_t8
  let c16_i32 : BitVec 32 := 16#32
  let v229 : BitVec 32 := Scalar.muli arg14 c16_i32
  let v230 : Index := Scalar.indexCast v229
  ![v230.toNat]

def k0_chk5 (v248 : IVec S16 32) (v252 : IVec S16 32) : Prop :=
  (∀ a x, ((![v252, v248] : Fin 2 → IVec S16 32) a x).toNat < S128x768.size a)
theorem k0_idx3_inb : ∀ (v248 : IVec S16 32) (v252 : IVec S16 32) (k0_hw5 : k0_chk5 v248 v252), ∀ a x, ((![v252, v248] : Fin 2 → IVec S16 32) a x).toNat < S128x768.size a := fun v248 v252 k0_hw5 => k0_hw5
@[reducible] def k0_t9_loop (v59 : BitVec 32) (v61 : BitVec 32) : Scf.Loop 32 :=
  let c0_i32_49 : BitVec 32 := 0#32
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let v85 : BitVec 32 := Scalar.subi v61 v84
  let c2048_i32_40 : BitVec 32 := 2048#32
  let v86 : BitVec 32 := Scalar.addi v85 c2048_i32_40
  let c1_i32_41 : BitVec 32 := 1#32
  let v87 : BitVec 32 := Scalar.subi v86 c1_i32_41
  let c0_i32_43 : BitVec 32 := 0#32
  let v89 : BitVec 1 := Scalar.cmpi .sgt v87 c0_i32_43
  let v90 : BitVec 32 := Scalar.extui v89
  let c0_i32_44 : BitVec 32 := 0#32
  let v91 : BitVec 1 := Scalar.cmpi .slt v87 c0_i32_44
  let v92 : BitVec 32 := Scalar.extui v91
  let v93 : BitVec 32 := Scalar.subi v90 v92
  let c2048_i32_42 : BitVec 32 := 2048#32
  let c0_i32_45 : BitVec 32 := 0#32
  let v94 : BitVec 1 := Scalar.cmpi .sgt c2048_i32_42 c0_i32_45
  let v95 : BitVec 32 := Scalar.extui v94
  let c0_i32_46 : BitVec 32 := 0#32
  let v96 : BitVec 1 := Scalar.cmpi .slt c2048_i32_42 c0_i32_46
  let v97 : BitVec 32 := Scalar.extui v96
  let v98 : BitVec 32 := Scalar.subi v95 v97
  let v99 : BitVec 1 := Scalar.cmpi .ne v93 v98
  let v100 : BitVec 32 := Scalar.remsi v87 c2048_i32_42
  let c0_i32_47 : BitVec 32 := 0#32
  let v101 : BitVec 1 := Scalar.cmpi .ne v100 c0_i32_47
  let v102 : BitVec 1 := Scalar.andi v99 v101
  let v88 : BitVec 32 := Scalar.divsi v87 c2048_i32_42
  let c1_i32_48 : BitVec 32 := 1#32
  let v103 : BitVec 32 := Scalar.subi v88 c1_i32_48
  let v104 : BitVec 32 := Scalar.select v102 v103 v88
  let v105 : BitVec 32 := Scalar.subi v104 c0_i32_49
  let c1_i32_51 : BitVec 32 := 1#32
  let v107 : BitVec 32 := Scalar.divsi v105 c1_i32_51
  let v108 : BitVec 32 := Scalar.muli v107 c1_i32_51
  let v109 : BitVec 32 := Scalar.addi c0_i32_49 v108
  let v106 : BitVec 32 := Scalar.addi c0_i32_49 v105
  let c1_i32_53 : BitVec 32 := 1#32
  ⟨v109, v106, c1_i32_53⟩
def k0_mult4 (v59 : BitVec 32) (v61 : BitVec 32) (k0_t9 : Fin (k0_t9_loop v59 v61).trips) : BitVec 32 :=
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let c0_i32_49 : BitVec 32 := 0#32
  let v85 : BitVec 32 := Scalar.subi v61 v84
  let c2048_i32_40 : BitVec 32 := 2048#32
  let v86 : BitVec 32 := Scalar.addi v85 c2048_i32_40
  let c1_i32_41 : BitVec 32 := 1#32
  let v87 : BitVec 32 := Scalar.subi v86 c1_i32_41
  let c0_i32_43 : BitVec 32 := 0#32
  let v89 : BitVec 1 := Scalar.cmpi .sgt v87 c0_i32_43
  let v90 : BitVec 32 := Scalar.extui v89
  let c0_i32_44 : BitVec 32 := 0#32
  let v91 : BitVec 1 := Scalar.cmpi .slt v87 c0_i32_44
  let v92 : BitVec 32 := Scalar.extui v91
  let v93 : BitVec 32 := Scalar.subi v90 v92
  let c2048_i32_42 : BitVec 32 := 2048#32
  let c0_i32_45 : BitVec 32 := 0#32
  let v94 : BitVec 1 := Scalar.cmpi .sgt c2048_i32_42 c0_i32_45
  let v95 : BitVec 32 := Scalar.extui v94
  let c0_i32_46 : BitVec 32 := 0#32
  let v96 : BitVec 1 := Scalar.cmpi .slt c2048_i32_42 c0_i32_46
  let v97 : BitVec 32 := Scalar.extui v96
  let v98 : BitVec 32 := Scalar.subi v95 v97
  let v99 : BitVec 1 := Scalar.cmpi .ne v93 v98
  let v100 : BitVec 32 := Scalar.remsi v87 c2048_i32_42
  let c0_i32_47 : BitVec 32 := 0#32
  let v101 : BitVec 1 := Scalar.cmpi .ne v100 c0_i32_47
  let v102 : BitVec 1 := Scalar.andi v99 v101
  let v88 : BitVec 32 := Scalar.divsi v87 c2048_i32_42
  let c1_i32_48 : BitVec 32 := 1#32
  let v103 : BitVec 32 := Scalar.subi v88 c1_i32_48
  let v104 : BitVec 32 := Scalar.select v102 v103 v88
  let v105 : BitVec 32 := Scalar.subi v104 c0_i32_49
  let c1_i32_51 : BitVec 32 := 1#32
  let v107 : BitVec 32 := Scalar.divsi v105 c1_i32_51
  let v108 : BitVec 32 := Scalar.muli v107 c1_i32_51
  let v109 : BitVec 32 := Scalar.addi c0_i32_49 v108
  let c1_i32_53 : BitVec 32 := 1#32
  let arg12 : BitVec 32 := Scf.iv v109 c1_i32_53 k0_t9
  let c2048_i32_113 : BitVec 32 := 2048#32
  let v220 : BitVec 32 := Scalar.muli arg12 c2048_i32_113
  let v221 : BitVec 32 := Scalar.addi v84 v220
  let c522240_i32 : BitVec 32 := 522240#32
  let v222 : BitVec 32 := Scalar.minsi v221 c522240_i32
  v222
def k0_off105 (v59 : BitVec 32) (v61 : BitVec 32) (k0_t9 : Fin (k0_t9_loop v59 v61).trips) : Fin 1 → Nat :=
  let c0_i32_33 : BitVec 32 := 0#32
  let v68 : BitVec 1 := Scalar.cmpi .sgt v59 c0_i32_33
  let v69 : BitVec 32 := Scalar.extui v68
  let c0_i32_34 : BitVec 32 := 0#32
  let v70 : BitVec 1 := Scalar.cmpi .slt v59 c0_i32_34
  let v71 : BitVec 32 := Scalar.extui v70
  let v72 : BitVec 32 := Scalar.subi v69 v71
  let c8_i32_32 : BitVec 32 := 8#32
  let c0_i32_35 : BitVec 32 := 0#32
  let v73 : BitVec 1 := Scalar.cmpi .sgt c8_i32_32 c0_i32_35
  let v74 : BitVec 32 := Scalar.extui v73
  let c0_i32_36 : BitVec 32 := 0#32
  let v75 : BitVec 1 := Scalar.cmpi .slt c8_i32_32 c0_i32_36
  let v76 : BitVec 32 := Scalar.extui v75
  let v77 : BitVec 32 := Scalar.subi v74 v76
  let v78 : BitVec 1 := Scalar.cmpi .ne v72 v77
  let v79 : BitVec 32 := Scalar.remsi v59 c8_i32_32
  let c0_i32_37 : BitVec 32 := 0#32
  let v80 : BitVec 1 := Scalar.cmpi .ne v79 c0_i32_37
  let v81 : BitVec 1 := Scalar.andi v78 v80
  let v67 : BitVec 32 := Scalar.divsi v59 c8_i32_32
  let c1_i32_38 : BitVec 32 := 1#32
  let v82 : BitVec 32 := Scalar.subi v67 c1_i32_38
  let v83 : BitVec 32 := Scalar.select v81 v82 v67
  let c8_i32_39 : BitVec 32 := 8#32
  let v84 : BitVec 32 := Scalar.muli v83 c8_i32_39
  let c0_i32_49 : BitVec 32 := 0#32
  let v85 : BitVec 32 := Scalar.subi v61 v84
  let c2048_i32_40 : BitVec 32 := 2048#32
  let v86 : BitVec 32 := Scalar.addi v85 c2048_i32_40
  let c1_i32_41 : BitVec 32 := 1#32
  let v87 : BitVec 32 := Scalar.subi v86 c1_i32_41
  let c0_i32_43 : BitVec 32 := 0#32
  let v89 : BitVec 1 := Scalar.cmpi .sgt v87 c0_i32_43
  let v90 : BitVec 32 := Scalar.extui v89
  let c0_i32_44 : BitVec 32 := 0#32
  let v91 : BitVec 1 := Scalar.cmpi .slt v87 c0_i32_44
  let v92 : BitVec 32 := Scalar.extui v91
  let v93 : BitVec 32 := Scalar.subi v90 v92
  let c2048_i32_42 : BitVec 32 := 2048#32
  let c0_i32_45 : BitVec 32 := 0#32
  let v94 : BitVec 1 := Scalar.cmpi .sgt c2048_i32_42 c0_i32_45
  let v95 : BitVec 32 := Scalar.extui v94
  let c0_i32_46 : BitVec 32 := 0#32
  let v96 : BitVec 1 := Scalar.cmpi .slt c2048_i32_42 c0_i32_46
  let v97 : BitVec 32 := Scalar.extui v96
  let v98 : BitVec 32 := Scalar.subi v95 v97
  let v99 : BitVec 1 := Scalar.cmpi .ne v93 v98
  let v100 : BitVec 32 := Scalar.remsi v87 c2048_i32_42
  let c0_i32_47 : BitVec 32 := 0#32
  let v101 : BitVec 1 := Scalar.cmpi .ne v100 c0_i32_47
  let v102 : BitVec 1 := Scalar.andi v99 v101
  let v88 : BitVec 32 := Scalar.divsi v87 c2048_i32_42
  let c1_i32_48 : BitVec 32 := 1#32
  let v103 : BitVec 32 := Scalar.subi v88 c1_i32_48
  let v104 : BitVec 32 := Scalar.select v102 v103 v88
  let v105 : BitVec 32 := Scalar.subi v104 c0_i32_49
  let c1_i32_51 : BitVec 32 := 1#32
  let v107 : BitVec 32 := Scalar.divsi v105 c1_i32_51
  let v108 : BitVec 32 := Scalar.muli v107 c1_i32_51
  let v109 : BitVec 32 := Scalar.addi c0_i32_49 v108
  let c1_i32_53 : BitVec 32 := 1#32
  let arg12 : BitVec 32 := Scf.iv v109 c1_i32_53 k0_t9
  let c2048_i32_113 : BitVec 32 := 2048#32
  let v220 : BitVec 32 := Scalar.muli arg12 c2048_i32_113
  let v221 : BitVec 32 := Scalar.addi v84 v220
  let c522240_i32 : BitVec 32 := 522240#32
  let v222 : BitVec 32 := Scalar.minsi v221 c522240_i32
  let v223 : BitVec 32 := v222
  ![v223.toNat]

def k0_chk4 (v59 : BitVec 32) (v61 : BitVec 32) : Prop :=
  ((k0_t7_loop v59 v61).OK) ∧
  (∀ k0_t7 : Fin (k0_t7_loop v59 v61).trips, 8 ∣ (k0_mult3 v59 v61 k0_t7).toNat) ∧
  (∀ k0_t7 : Fin (k0_t7_loop v59 v61).trips, ∀ a, (k0_off103 v59 v61 k0_t7) a + S2048.size a ≤ S524288.size a) ∧
  ((k0_t9_loop v59 v61).OK) ∧
  (∀ k0_t9 : Fin (k0_t9_loop v59 v61).trips, 8 ∣ (k0_mult4 v59 v61 k0_t9).toNat) ∧
  (∀ k0_t9 : Fin (k0_t9_loop v59 v61).trips, ∀ a, (k0_off105 v59 v61 k0_t9) a + S2048.size a ≤ S524288.size a)
theorem k0_t7_ok : ∀ (v59 : BitVec 32) (v61 : BitVec 32) (k0_hw4 : k0_chk4 v59 v61), (k0_t7_loop v59 v61).OK := fun v59 v61 k0_hw4 => k0_hw4.1
theorem k0_mult3_dvd : ∀ (v59 : BitVec 32) (v61 : BitVec 32) (k0_hw4 : k0_chk4 v59 v61) (k0_t7 : Fin (k0_t7_loop v59 v61).trips), 8 ∣ (k0_mult3 v59 v61 k0_t7).toNat := fun v59 v61 k0_hw4 k0_t7 => k0_hw4.2.1 k0_t7
theorem k0_off103_inb : ∀ (v59 : BitVec 32) (v61 : BitVec 32) (k0_hw4 : k0_chk4 v59 v61) (k0_t7 : Fin (k0_t7_loop v59 v61).trips), ∀ a, (k0_off103 v59 v61 k0_t7) a + S2048.size a ≤ S524288.size a := fun v59 v61 k0_hw4 k0_t7 => k0_hw4.2.2.1 k0_t7
theorem k0_t9_ok : ∀ (v59 : BitVec 32) (v61 : BitVec 32) (k0_hw4 : k0_chk4 v59 v61), (k0_t9_loop v59 v61).OK := fun v59 v61 k0_hw4 => k0_hw4.2.2.2.1
theorem k0_mult4_dvd : ∀ (v59 : BitVec 32) (v61 : BitVec 32) (k0_hw4 : k0_chk4 v59 v61) (k0_t9 : Fin (k0_t9_loop v59 v61).trips), 8 ∣ (k0_mult4 v59 v61 k0_t9).toNat := fun v59 v61 k0_hw4 k0_t9 => k0_hw4.2.2.2.2.1 k0_t9
theorem k0_off105_inb : ∀ (v59 : BitVec 32) (v61 : BitVec 32) (k0_hw4 : k0_chk4 v59 v61) (k0_t9 : Fin (k0_t9_loop v59 v61).trips), ∀ a, (k0_off105 v59 v61 k0_t9) a + S2048.size a ≤ S524288.size a := fun v59 v61 k0_hw4 k0_t9 => k0_hw4.2.2.2.2.2 k0_t9

@[reducible] def k0_t10_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off106 (k0_t10 : Fin k0_t10_loop.trips) : Fin 1 → Nat :=
  let c0_i32_116 : BitVec 32 := 0#32
  let c1_i32_118 : BitVec 32 := 1#32
  let arg14 : BitVec 32 := Scf.iv c0_i32_116 c1_i32_118 k0_t10
  let c16_i32 : BitVec 32 := 16#32
  let v229 : BitVec 32 := Scalar.muli arg14 c16_i32
  let v230 : Index := Scalar.indexCast v229
  ![v230.toNat]

def k0_chk6 (v248 : IVec S16 32) (v252 : IVec S16 32) : Prop :=
  (∀ a x, ((![v252, v248] : Fin 2 → IVec S16 32) a x).toNat < S128x768.size a)
theorem k0_idx4_inb : ∀ (v248 : IVec S16 32) (v252 : IVec S16 32) (k0_hw6 : k0_chk6 v248 v252), ∀ a x, ((![v252, v248] : Fin 2 → IVec S16 32) a x).toNat < S128x768.size a := fun v248 v252 k0_hw6 => k0_hw6
def k0_off107 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_24 : BitVec 32 := 4#32
  let v62 : BitVec 32 := Scalar.muli v1 c4_i32_24
  let c1_i32_25 : BitVec 32 := 1#32
  let v63 : BitVec 32 := Scalar.addi v62 c1_i32_25
  let c128_i32_26 : BitVec 32 := 128#32
  let v64 : BitVec 32 := Scalar.muli v63 c128_i32_26
  let c0_i32_113_r14 : BitVec 32 := 0#32
  ![v64.toNat, 0]
@[reducible] def k0_t11_loop : Scf.Loop 32 :=
  let c0_i32_58 : BitVec 32 := 0#32
  let c128_i32_59 : BitVec 32 := 128#32
  let v119 : BitVec 32 := Scalar.addi c0_i32_58 c128_i32_59
  let c1_i32_60 : BitVec 32 := 1#32
  ⟨c0_i32_58, v119, c1_i32_60⟩
def k0_off108 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v221 : Index := Scalar.indexCast arg12
  let c0_113 : Index := 0#32
  ![v221.toNat, 0]
def k0_off109 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v224 : Index := Scalar.indexCast arg12
  let c16 : Index := 16#32
  ![v224.toNat, 16]
def k0_off110 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v227 : Index := Scalar.indexCast arg12
  let c32 : Index := 32#32
  ![v227.toNat, 32]
def k0_off111 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v230 : Index := Scalar.indexCast arg12
  let c48 : Index := 48#32
  ![v230.toNat, 48]
def k0_off112 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v233 : Index := Scalar.indexCast arg12
  let c64 : Index := 64#32
  ![v233.toNat, 64]
def k0_off113 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v236 : Index := Scalar.indexCast arg12
  let c80 : Index := 80#32
  ![v236.toNat, 80]
def k0_off114 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v239 : Index := Scalar.indexCast arg12
  let c96 : Index := 96#32
  ![v239.toNat, 96]
def k0_off115 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v242 : Index := Scalar.indexCast arg12
  let c112 : Index := 112#32
  ![v242.toNat, 112]
def k0_off116 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v245 : Index := Scalar.indexCast arg12
  let c128 : Index := 128#32
  ![v245.toNat, 128]
def k0_off117 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v248 : Index := Scalar.indexCast arg12
  let c144 : Index := 144#32
  ![v248.toNat, 144]
def k0_off118 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v251 : Index := Scalar.indexCast arg12
  let c160 : Index := 160#32
  ![v251.toNat, 160]
def k0_off119 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v254 : Index := Scalar.indexCast arg12
  let c176 : Index := 176#32
  ![v254.toNat, 176]
def k0_off120 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v257 : Index := Scalar.indexCast arg12
  let c192 : Index := 192#32
  ![v257.toNat, 192]
def k0_off121 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v260 : Index := Scalar.indexCast arg12
  let c208 : Index := 208#32
  ![v260.toNat, 208]
def k0_off122 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v263 : Index := Scalar.indexCast arg12
  let c224 : Index := 224#32
  ![v263.toNat, 224]
def k0_off123 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v266 : Index := Scalar.indexCast arg12
  let c240 : Index := 240#32
  ![v266.toNat, 240]
def k0_off124 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v269 : Index := Scalar.indexCast arg12
  let c256 : Index := 256#32
  ![v269.toNat, 256]
def k0_off125 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v272 : Index := Scalar.indexCast arg12
  let c272 : Index := 272#32
  ![v272.toNat, 272]
def k0_off126 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v275 : Index := Scalar.indexCast arg12
  let c288 : Index := 288#32
  ![v275.toNat, 288]
def k0_off127 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v278 : Index := Scalar.indexCast arg12
  let c304 : Index := 304#32
  ![v278.toNat, 304]
def k0_off128 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v281 : Index := Scalar.indexCast arg12
  let c320 : Index := 320#32
  ![v281.toNat, 320]
def k0_off129 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v284 : Index := Scalar.indexCast arg12
  let c336 : Index := 336#32
  ![v284.toNat, 336]
def k0_off130 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v287 : Index := Scalar.indexCast arg12
  let c352 : Index := 352#32
  ![v287.toNat, 352]
def k0_off131 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v290 : Index := Scalar.indexCast arg12
  let c368 : Index := 368#32
  ![v290.toNat, 368]
def k0_off132 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v293 : Index := Scalar.indexCast arg12
  let c384 : Index := 384#32
  ![v293.toNat, 384]
def k0_off133 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v296 : Index := Scalar.indexCast arg12
  let c400 : Index := 400#32
  ![v296.toNat, 400]
def k0_off134 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v299 : Index := Scalar.indexCast arg12
  let c416 : Index := 416#32
  ![v299.toNat, 416]
def k0_off135 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v302 : Index := Scalar.indexCast arg12
  let c432 : Index := 432#32
  ![v302.toNat, 432]
def k0_off136 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v305 : Index := Scalar.indexCast arg12
  let c448 : Index := 448#32
  ![v305.toNat, 448]
def k0_off137 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v308 : Index := Scalar.indexCast arg12
  let c464 : Index := 464#32
  ![v308.toNat, 464]
def k0_off138 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v311 : Index := Scalar.indexCast arg12
  let c480 : Index := 480#32
  ![v311.toNat, 480]
def k0_off139 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v314 : Index := Scalar.indexCast arg12
  let c496 : Index := 496#32
  ![v314.toNat, 496]
def k0_off140 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v317 : Index := Scalar.indexCast arg12
  let c512 : Index := 512#32
  ![v317.toNat, 512]
def k0_off141 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v320 : Index := Scalar.indexCast arg12
  let c528 : Index := 528#32
  ![v320.toNat, 528]
def k0_off142 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v323 : Index := Scalar.indexCast arg12
  let c544 : Index := 544#32
  ![v323.toNat, 544]
def k0_off143 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v326 : Index := Scalar.indexCast arg12
  let c560 : Index := 560#32
  ![v326.toNat, 560]
def k0_off144 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v329 : Index := Scalar.indexCast arg12
  let c576 : Index := 576#32
  ![v329.toNat, 576]
def k0_off145 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v332 : Index := Scalar.indexCast arg12
  let c592 : Index := 592#32
  ![v332.toNat, 592]
def k0_off146 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v335 : Index := Scalar.indexCast arg12
  let c608 : Index := 608#32
  ![v335.toNat, 608]
def k0_off147 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v338 : Index := Scalar.indexCast arg12
  let c624 : Index := 624#32
  ![v338.toNat, 624]
def k0_off148 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v341 : Index := Scalar.indexCast arg12
  let c640 : Index := 640#32
  ![v341.toNat, 640]
def k0_off149 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v344 : Index := Scalar.indexCast arg12
  let c656 : Index := 656#32
  ![v344.toNat, 656]
def k0_off150 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v347 : Index := Scalar.indexCast arg12
  let c672 : Index := 672#32
  ![v347.toNat, 672]
def k0_off151 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v350 : Index := Scalar.indexCast arg12
  let c688 : Index := 688#32
  ![v350.toNat, 688]
def k0_off152 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v353 : Index := Scalar.indexCast arg12
  let c704 : Index := 704#32
  ![v353.toNat, 704]
def k0_off153 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v356 : Index := Scalar.indexCast arg12
  let c720 : Index := 720#32
  ![v356.toNat, 720]
def k0_off154 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v359 : Index := Scalar.indexCast arg12
  let c736 : Index := 736#32
  ![v359.toNat, 736]
def k0_off155 (k0_t11 : Fin k0_t11_loop.trips) : Fin 2 → Nat :=
  let c0_i32_58 : BitVec 32 := 0#32
  let c1_i32_60 : BitVec 32 := 1#32
  let arg12 : BitVec 32 := Scf.iv c0_i32_58 c1_i32_60 k0_t11
  let v362 : Index := Scalar.indexCast arg12
  let c752 : Index := 752#32
  ![v362.toNat, 752]
@[reducible] def k0_t12_loop (v113 : BitVec 32) (v115 : BitVec 32) : Scf.Loop 32 :=
  let c0_i32_79 : BitVec 32 := 0#32
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let v139 : BitVec 32 := Scalar.subi v115 v138
  let c2048_i32_70 : BitVec 32 := 2048#32
  let v140 : BitVec 32 := Scalar.addi v139 c2048_i32_70
  let c1_i32_71 : BitVec 32 := 1#32
  let v141 : BitVec 32 := Scalar.subi v140 c1_i32_71
  let c0_i32_73 : BitVec 32 := 0#32
  let v143 : BitVec 1 := Scalar.cmpi .sgt v141 c0_i32_73
  let v144 : BitVec 32 := Scalar.extui v143
  let c0_i32_74 : BitVec 32 := 0#32
  let v145 : BitVec 1 := Scalar.cmpi .slt v141 c0_i32_74
  let v146 : BitVec 32 := Scalar.extui v145
  let v147 : BitVec 32 := Scalar.subi v144 v146
  let c2048_i32_72 : BitVec 32 := 2048#32
  let c0_i32_75 : BitVec 32 := 0#32
  let v148 : BitVec 1 := Scalar.cmpi .sgt c2048_i32_72 c0_i32_75
  let v149 : BitVec 32 := Scalar.extui v148
  let c0_i32_76 : BitVec 32 := 0#32
  let v150 : BitVec 1 := Scalar.cmpi .slt c2048_i32_72 c0_i32_76
  let v151 : BitVec 32 := Scalar.extui v150
  let v152 : BitVec 32 := Scalar.subi v149 v151
  let v153 : BitVec 1 := Scalar.cmpi .ne v147 v152
  let v154 : BitVec 32 := Scalar.remsi v141 c2048_i32_72
  let c0_i32_77 : BitVec 32 := 0#32
  let v155 : BitVec 1 := Scalar.cmpi .ne v154 c0_i32_77
  let v156 : BitVec 1 := Scalar.andi v153 v155
  let v142 : BitVec 32 := Scalar.divsi v141 c2048_i32_72
  let c1_i32_78 : BitVec 32 := 1#32
  let v157 : BitVec 32 := Scalar.subi v142 c1_i32_78
  let v158 : BitVec 32 := Scalar.select v156 v157 v142
  let v159 : BitVec 32 := Scalar.subi v158 c0_i32_79
  let c1_i32_81 : BitVec 32 := 1#32
  let v161 : BitVec 32 := Scalar.divsi v159 c1_i32_81
  let v162 : BitVec 32 := Scalar.muli v161 c1_i32_81
  let v163 : BitVec 32 := Scalar.addi c0_i32_79 v162
  let c1_i32_82 : BitVec 32 := 1#32
  ⟨c0_i32_79, v163, c1_i32_82⟩

def k0_mult5 (v113 : BitVec 32) (v115 : BitVec 32) (k0_t12 : Fin (k0_t12_loop v113 v115).trips) : BitVec 32 :=
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let c0_i32_79 : BitVec 32 := 0#32
  let c1_i32_82 : BitVec 32 := 1#32
  let arg12 : BitVec 32 := Scf.iv c0_i32_79 c1_i32_82 k0_t12
  let c2048_i32_113 : BitVec 32 := 2048#32
  let v220 : BitVec 32 := Scalar.muli arg12 c2048_i32_113
  let v221 : BitVec 32 := Scalar.addi v138 v220
  let c522240_i32 : BitVec 32 := 522240#32
  let v222 : BitVec 32 := Scalar.minsi v221 c522240_i32
  v222
def k0_off156 (v113 : BitVec 32) (v115 : BitVec 32) (k0_t12 : Fin (k0_t12_loop v113 v115).trips) : Fin 1 → Nat :=
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let c0_i32_79 : BitVec 32 := 0#32
  let c1_i32_82 : BitVec 32 := 1#32
  let arg12 : BitVec 32 := Scf.iv c0_i32_79 c1_i32_82 k0_t12
  let c2048_i32_113 : BitVec 32 := 2048#32
  let v220 : BitVec 32 := Scalar.muli arg12 c2048_i32_113
  let v221 : BitVec 32 := Scalar.addi v138 v220
  let c522240_i32 : BitVec 32 := 522240#32
  let v222 : BitVec 32 := Scalar.minsi v221 c522240_i32
  let v223 : BitVec 32 := v222
  ![v223.toNat]
@[reducible] def k0_t13_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off157 (k0_t13 : Fin k0_t13_loop.trips) : Fin 1 → Nat :=
  let c0_i32_116 : BitVec 32 := 0#32
  let c1_i32_118 : BitVec 32 := 1#32
  let arg14 : BitVec 32 := Scf.iv c0_i32_116 c1_i32_118 k0_t13
  let c16_i32 : BitVec 32 := 16#32
  let v229 : BitVec 32 := Scalar.muli arg14 c16_i32
  let v230 : Index := Scalar.indexCast v229
  ![v230.toNat]

def k0_chk8 (v248 : IVec S16 32) (v252 : IVec S16 32) : Prop :=
  (∀ a x, ((![v252, v248] : Fin 2 → IVec S16 32) a x).toNat < S128x768.size a)
theorem k0_idx5_inb : ∀ (v248 : IVec S16 32) (v252 : IVec S16 32) (k0_hw8 : k0_chk8 v248 v252), ∀ a x, ((![v252, v248] : Fin 2 → IVec S16 32) a x).toNat < S128x768.size a := fun v248 v252 k0_hw8 => k0_hw8
@[reducible] def k0_t14_loop (v113 : BitVec 32) (v115 : BitVec 32) : Scf.Loop 32 :=
  let c0_i32_79 : BitVec 32 := 0#32
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let v139 : BitVec 32 := Scalar.subi v115 v138
  let c2048_i32_70 : BitVec 32 := 2048#32
  let v140 : BitVec 32 := Scalar.addi v139 c2048_i32_70
  let c1_i32_71 : BitVec 32 := 1#32
  let v141 : BitVec 32 := Scalar.subi v140 c1_i32_71
  let c0_i32_73 : BitVec 32 := 0#32
  let v143 : BitVec 1 := Scalar.cmpi .sgt v141 c0_i32_73
  let v144 : BitVec 32 := Scalar.extui v143
  let c0_i32_74 : BitVec 32 := 0#32
  let v145 : BitVec 1 := Scalar.cmpi .slt v141 c0_i32_74
  let v146 : BitVec 32 := Scalar.extui v145
  let v147 : BitVec 32 := Scalar.subi v144 v146
  let c2048_i32_72 : BitVec 32 := 2048#32
  let c0_i32_75 : BitVec 32 := 0#32
  let v148 : BitVec 1 := Scalar.cmpi .sgt c2048_i32_72 c0_i32_75
  let v149 : BitVec 32 := Scalar.extui v148
  let c0_i32_76 : BitVec 32 := 0#32
  let v150 : BitVec 1 := Scalar.cmpi .slt c2048_i32_72 c0_i32_76
  let v151 : BitVec 32 := Scalar.extui v150
  let v152 : BitVec 32 := Scalar.subi v149 v151
  let v153 : BitVec 1 := Scalar.cmpi .ne v147 v152
  let v154 : BitVec 32 := Scalar.remsi v141 c2048_i32_72
  let c0_i32_77 : BitVec 32 := 0#32
  let v155 : BitVec 1 := Scalar.cmpi .ne v154 c0_i32_77
  let v156 : BitVec 1 := Scalar.andi v153 v155
  let v142 : BitVec 32 := Scalar.divsi v141 c2048_i32_72
  let c1_i32_78 : BitVec 32 := 1#32
  let v157 : BitVec 32 := Scalar.subi v142 c1_i32_78
  let v158 : BitVec 32 := Scalar.select v156 v157 v142
  let v159 : BitVec 32 := Scalar.subi v158 c0_i32_79
  let c1_i32_81 : BitVec 32 := 1#32
  let v161 : BitVec 32 := Scalar.divsi v159 c1_i32_81
  let v162 : BitVec 32 := Scalar.muli v161 c1_i32_81
  let v163 : BitVec 32 := Scalar.addi c0_i32_79 v162
  let v160 : BitVec 32 := Scalar.addi c0_i32_79 v159
  let c1_i32_83 : BitVec 32 := 1#32
  ⟨v163, v160, c1_i32_83⟩
def k0_mult6 (v113 : BitVec 32) (v115 : BitVec 32) (k0_t14 : Fin (k0_t14_loop v113 v115).trips) : BitVec 32 :=
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let c0_i32_79 : BitVec 32 := 0#32
  let v139 : BitVec 32 := Scalar.subi v115 v138
  let c2048_i32_70 : BitVec 32 := 2048#32
  let v140 : BitVec 32 := Scalar.addi v139 c2048_i32_70
  let c1_i32_71 : BitVec 32 := 1#32
  let v141 : BitVec 32 := Scalar.subi v140 c1_i32_71
  let c0_i32_73 : BitVec 32 := 0#32
  let v143 : BitVec 1 := Scalar.cmpi .sgt v141 c0_i32_73
  let v144 : BitVec 32 := Scalar.extui v143
  let c0_i32_74 : BitVec 32 := 0#32
  let v145 : BitVec 1 := Scalar.cmpi .slt v141 c0_i32_74
  let v146 : BitVec 32 := Scalar.extui v145
  let v147 : BitVec 32 := Scalar.subi v144 v146
  let c2048_i32_72 : BitVec 32 := 2048#32
  let c0_i32_75 : BitVec 32 := 0#32
  let v148 : BitVec 1 := Scalar.cmpi .sgt c2048_i32_72 c0_i32_75
  let v149 : BitVec 32 := Scalar.extui v148
  let c0_i32_76 : BitVec 32 := 0#32
  let v150 : BitVec 1 := Scalar.cmpi .slt c2048_i32_72 c0_i32_76
  let v151 : BitVec 32 := Scalar.extui v150
  let v152 : BitVec 32 := Scalar.subi v149 v151
  let v153 : BitVec 1 := Scalar.cmpi .ne v147 v152
  let v154 : BitVec 32 := Scalar.remsi v141 c2048_i32_72
  let c0_i32_77 : BitVec 32 := 0#32
  let v155 : BitVec 1 := Scalar.cmpi .ne v154 c0_i32_77
  let v156 : BitVec 1 := Scalar.andi v153 v155
  let v142 : BitVec 32 := Scalar.divsi v141 c2048_i32_72
  let c1_i32_78 : BitVec 32 := 1#32
  let v157 : BitVec 32 := Scalar.subi v142 c1_i32_78
  let v158 : BitVec 32 := Scalar.select v156 v157 v142
  let v159 : BitVec 32 := Scalar.subi v158 c0_i32_79
  let c1_i32_81 : BitVec 32 := 1#32
  let v161 : BitVec 32 := Scalar.divsi v159 c1_i32_81
  let v162 : BitVec 32 := Scalar.muli v161 c1_i32_81
  let v163 : BitVec 32 := Scalar.addi c0_i32_79 v162
  let c1_i32_83 : BitVec 32 := 1#32
  let arg12 : BitVec 32 := Scf.iv v163 c1_i32_83 k0_t14
  let c2048_i32_113 : BitVec 32 := 2048#32
  let v220 : BitVec 32 := Scalar.muli arg12 c2048_i32_113
  let v221 : BitVec 32 := Scalar.addi v138 v220
  let c522240_i32 : BitVec 32 := 522240#32
  let v222 : BitVec 32 := Scalar.minsi v221 c522240_i32
  v222
def k0_off158 (v113 : BitVec 32) (v115 : BitVec 32) (k0_t14 : Fin (k0_t14_loop v113 v115).trips) : Fin 1 → Nat :=
  let c0_i32_63 : BitVec 32 := 0#32
  let v122 : BitVec 1 := Scalar.cmpi .sgt v113 c0_i32_63
  let v123 : BitVec 32 := Scalar.extui v122
  let c0_i32_64 : BitVec 32 := 0#32
  let v124 : BitVec 1 := Scalar.cmpi .slt v113 c0_i32_64
  let v125 : BitVec 32 := Scalar.extui v124
  let v126 : BitVec 32 := Scalar.subi v123 v125
  let c8_i32_62 : BitVec 32 := 8#32
  let c0_i32_65 : BitVec 32 := 0#32
  let v127 : BitVec 1 := Scalar.cmpi .sgt c8_i32_62 c0_i32_65
  let v128 : BitVec 32 := Scalar.extui v127
  let c0_i32_66 : BitVec 32 := 0#32
  let v129 : BitVec 1 := Scalar.cmpi .slt c8_i32_62 c0_i32_66
  let v130 : BitVec 32 := Scalar.extui v129
  let v131 : BitVec 32 := Scalar.subi v128 v130
  let v132 : BitVec 1 := Scalar.cmpi .ne v126 v131
  let v133 : BitVec 32 := Scalar.remsi v113 c8_i32_62
  let c0_i32_67 : BitVec 32 := 0#32
  let v134 : BitVec 1 := Scalar.cmpi .ne v133 c0_i32_67
  let v135 : BitVec 1 := Scalar.andi v132 v134
  let v121 : BitVec 32 := Scalar.divsi v113 c8_i32_62
  let c1_i32_68 : BitVec 32 := 1#32
  let v136 : BitVec 32 := Scalar.subi v121 c1_i32_68
  let v137 : BitVec 32 := Scalar.select v135 v136 v121
  let c8_i32_69 : BitVec 32 := 8#32
  let v138 : BitVec 32 := Scalar.muli v137 c8_i32_69
  let c0_i32_79 : BitVec 32 := 0#32
  let v139 : BitVec 32 := Scalar.subi v115 v138
  let c2048_i32_70 : BitVec 32 := 2048#32
  let v140 : BitVec 32 := Scalar.addi v139 c2048_i32_70
  let c1_i32_71 : BitVec 32 := 1#32
  let v141 : BitVec 32 := Scalar.subi v140 c1_i32_71
  let c0_i32_73 : BitVec 32 := 0#32
  let v143 : BitVec 1 := Scalar.cmpi .sgt v141 c0_i32_73
  let v144 : BitVec 32 := Scalar.extui v143
  let c0_i32_74 : BitVec 32 := 0#32
  let v145 : BitVec 1 := Scalar.cmpi .slt v141 c0_i32_74
  let v146 : BitVec 32 := Scalar.extui v145
  let v147 : BitVec 32 := Scalar.subi v144 v146
  let c2048_i32_72 : BitVec 32 := 2048#32
  let c0_i32_75 : BitVec 32 := 0#32
  let v148 : BitVec 1 := Scalar.cmpi .sgt c2048_i32_72 c0_i32_75
  let v149 : BitVec 32 := Scalar.extui v148
  let c0_i32_76 : BitVec 32 := 0#32
  let v150 : BitVec 1 := Scalar.cmpi .slt c2048_i32_72 c0_i32_76
  let v151 : BitVec 32 := Scalar.extui v150
  let v152 : BitVec 32 := Scalar.subi v149 v151
  let v153 : BitVec 1 := Scalar.cmpi .ne v147 v152
  let v154 : BitVec 32 := Scalar.remsi v141 c2048_i32_72
  let c0_i32_77 : BitVec 32 := 0#32
  let v155 : BitVec 1 := Scalar.cmpi .ne v154 c0_i32_77
  let v156 : BitVec 1 := Scalar.andi v153 v155
  let v142 : BitVec 32 := Scalar.divsi v141 c2048_i32_72
  let c1_i32_78 : BitVec 32 := 1#32
  let v157 : BitVec 32 := Scalar.subi v142 c1_i32_78
  let v158 : BitVec 32 := Scalar.select v156 v157 v142
  let v159 : BitVec 32 := Scalar.subi v158 c0_i32_79
  let c1_i32_81 : BitVec 32 := 1#32
  let v161 : BitVec 32 := Scalar.divsi v159 c1_i32_81
  let v162 : BitVec 32 := Scalar.muli v161 c1_i32_81
  let v163 : BitVec 32 := Scalar.addi c0_i32_79 v162
  let c1_i32_83 : BitVec 32 := 1#32
  let arg12 : BitVec 32 := Scf.iv v163 c1_i32_83 k0_t14
  let c2048_i32_113 : BitVec 32 := 2048#32
  let v220 : BitVec 32 := Scalar.muli arg12 c2048_i32_113
  let v221 : BitVec 32 := Scalar.addi v138 v220
  let c522240_i32 : BitVec 32 := 522240#32
  let v222 : BitVec 32 := Scalar.minsi v221 c522240_i32
  let v223 : BitVec 32 := v222
  ![v223.toNat]

def k0_chk7 (v113 : BitVec 32) (v115 : BitVec 32) : Prop :=
  ((k0_t12_loop v113 v115).OK) ∧
  (∀ k0_t12 : Fin (k0_t12_loop v113 v115).trips, 8 ∣ (k0_mult5 v113 v115 k0_t12).toNat) ∧
  (∀ k0_t12 : Fin (k0_t12_loop v113 v115).trips, ∀ a, (k0_off156 v113 v115 k0_t12) a + S2048.size a ≤ S524288.size a) ∧
  ((k0_t14_loop v113 v115).OK) ∧
  (∀ k0_t14 : Fin (k0_t14_loop v113 v115).trips, 8 ∣ (k0_mult6 v113 v115 k0_t14).toNat) ∧
  (∀ k0_t14 : Fin (k0_t14_loop v113 v115).trips, ∀ a, (k0_off158 v113 v115 k0_t14) a + S2048.size a ≤ S524288.size a)
theorem k0_t12_ok : ∀ (v113 : BitVec 32) (v115 : BitVec 32) (k0_hw7 : k0_chk7 v113 v115), (k0_t12_loop v113 v115).OK := fun v113 v115 k0_hw7 => k0_hw7.1
theorem k0_mult5_dvd : ∀ (v113 : BitVec 32) (v115 : BitVec 32) (k0_hw7 : k0_chk7 v113 v115) (k0_t12 : Fin (k0_t12_loop v113 v115).trips), 8 ∣ (k0_mult5 v113 v115 k0_t12).toNat := fun v113 v115 k0_hw7 k0_t12 => k0_hw7.2.1 k0_t12
theorem k0_off156_inb : ∀ (v113 : BitVec 32) (v115 : BitVec 32) (k0_hw7 : k0_chk7 v113 v115) (k0_t12 : Fin (k0_t12_loop v113 v115).trips), ∀ a, (k0_off156 v113 v115 k0_t12) a + S2048.size a ≤ S524288.size a := fun v113 v115 k0_hw7 k0_t12 => k0_hw7.2.2.1 k0_t12
theorem k0_t14_ok : ∀ (v113 : BitVec 32) (v115 : BitVec 32) (k0_hw7 : k0_chk7 v113 v115), (k0_t14_loop v113 v115).OK := fun v113 v115 k0_hw7 => k0_hw7.2.2.2.1
theorem k0_mult6_dvd : ∀ (v113 : BitVec 32) (v115 : BitVec 32) (k0_hw7 : k0_chk7 v113 v115) (k0_t14 : Fin (k0_t14_loop v113 v115).trips), 8 ∣ (k0_mult6 v113 v115 k0_t14).toNat := fun v113 v115 k0_hw7 k0_t14 => k0_hw7.2.2.2.2.1 k0_t14
theorem k0_off158_inb : ∀ (v113 : BitVec 32) (v115 : BitVec 32) (k0_hw7 : k0_chk7 v113 v115) (k0_t14 : Fin (k0_t14_loop v113 v115).trips), ∀ a, (k0_off158 v113 v115 k0_t14) a + S2048.size a ≤ S524288.size a := fun v113 v115 k0_hw7 k0_t14 => k0_hw7.2.2.2.2.2 k0_t14

@[reducible] def k0_t15_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off159 (k0_t15 : Fin k0_t15_loop.trips) : Fin 1 → Nat :=
  let c0_i32_116 : BitVec 32 := 0#32
  let c1_i32_118 : BitVec 32 := 1#32
  let arg14 : BitVec 32 := Scf.iv c0_i32_116 c1_i32_118 k0_t15
  let c16_i32 : BitVec 32 := 16#32
  let v229 : BitVec 32 := Scalar.muli arg14 c16_i32
  let v230 : Index := Scalar.indexCast v229
  ![v230.toNat]

def k0_chk9 (v248 : IVec S16 32) (v252 : IVec S16 32) : Prop :=
  (∀ a x, ((![v252, v248] : Fin 2 → IVec S16 32) a x).toNat < S128x768.size a)
theorem k0_idx6_inb : ∀ (v248 : IVec S16 32) (v252 : IVec S16 32) (k0_hw9 : k0_chk9 v248 v252), ∀ a x, ((![v252, v248] : Fin 2 → IVec S16 32) a x).toNat < S128x768.size a := fun v248 v252 k0_hw9 => k0_hw9
def k0_off160 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_54 : BitVec 32 := 4#32
  let v116 : BitVec 32 := Scalar.muli v1 c4_i32_54
  let c2_i32_55 : BitVec 32 := 2#32
  let v117 : BitVec 32 := Scalar.addi v116 c2_i32_55
  let c128_i32_56 : BitVec 32 := 128#32
  let v118 : BitVec 32 := Scalar.muli v117 c128_i32_56
  let c0_i32_113_r21 : BitVec 32 := 0#32
  ![v118.toNat, 0]
@[reducible] def k0_t16_loop : Scf.Loop 32 :=
  let c0_i32_87 : BitVec 32 := 0#32
  let c128_i32_88 : BitVec 32 := 128#32
  let v173 : BitVec 32 := Scalar.addi c0_i32_87 c128_i32_88
  let c1_i32_89 : BitVec 32 := 1#32
  ⟨c0_i32_87, v173, c1_i32_89⟩
def k0_off161 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v221 : Index := Scalar.indexCast arg12
  let c0_113 : Index := 0#32
  ![v221.toNat, 0]
def k0_off162 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v224 : Index := Scalar.indexCast arg12
  let c16 : Index := 16#32
  ![v224.toNat, 16]
def k0_off163 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v227 : Index := Scalar.indexCast arg12
  let c32 : Index := 32#32
  ![v227.toNat, 32]
def k0_off164 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v230 : Index := Scalar.indexCast arg12
  let c48 : Index := 48#32
  ![v230.toNat, 48]
def k0_off165 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v233 : Index := Scalar.indexCast arg12
  let c64 : Index := 64#32
  ![v233.toNat, 64]
def k0_off166 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v236 : Index := Scalar.indexCast arg12
  let c80 : Index := 80#32
  ![v236.toNat, 80]
def k0_off167 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v239 : Index := Scalar.indexCast arg12
  let c96 : Index := 96#32
  ![v239.toNat, 96]
def k0_off168 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v242 : Index := Scalar.indexCast arg12
  let c112 : Index := 112#32
  ![v242.toNat, 112]
def k0_off169 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v245 : Index := Scalar.indexCast arg12
  let c128 : Index := 128#32
  ![v245.toNat, 128]
def k0_off170 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v248 : Index := Scalar.indexCast arg12
  let c144 : Index := 144#32
  ![v248.toNat, 144]
def k0_off171 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v251 : Index := Scalar.indexCast arg12
  let c160 : Index := 160#32
  ![v251.toNat, 160]
def k0_off172 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v254 : Index := Scalar.indexCast arg12
  let c176 : Index := 176#32
  ![v254.toNat, 176]
def k0_off173 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v257 : Index := Scalar.indexCast arg12
  let c192 : Index := 192#32
  ![v257.toNat, 192]
def k0_off174 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v260 : Index := Scalar.indexCast arg12
  let c208 : Index := 208#32
  ![v260.toNat, 208]
def k0_off175 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v263 : Index := Scalar.indexCast arg12
  let c224 : Index := 224#32
  ![v263.toNat, 224]
def k0_off176 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v266 : Index := Scalar.indexCast arg12
  let c240 : Index := 240#32
  ![v266.toNat, 240]
def k0_off177 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v269 : Index := Scalar.indexCast arg12
  let c256 : Index := 256#32
  ![v269.toNat, 256]
def k0_off178 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v272 : Index := Scalar.indexCast arg12
  let c272 : Index := 272#32
  ![v272.toNat, 272]
def k0_off179 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v275 : Index := Scalar.indexCast arg12
  let c288 : Index := 288#32
  ![v275.toNat, 288]
def k0_off180 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v278 : Index := Scalar.indexCast arg12
  let c304 : Index := 304#32
  ![v278.toNat, 304]
def k0_off181 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v281 : Index := Scalar.indexCast arg12
  let c320 : Index := 320#32
  ![v281.toNat, 320]
def k0_off182 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v284 : Index := Scalar.indexCast arg12
  let c336 : Index := 336#32
  ![v284.toNat, 336]
def k0_off183 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v287 : Index := Scalar.indexCast arg12
  let c352 : Index := 352#32
  ![v287.toNat, 352]
def k0_off184 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v290 : Index := Scalar.indexCast arg12
  let c368 : Index := 368#32
  ![v290.toNat, 368]
def k0_off185 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v293 : Index := Scalar.indexCast arg12
  let c384 : Index := 384#32
  ![v293.toNat, 384]
def k0_off186 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v296 : Index := Scalar.indexCast arg12
  let c400 : Index := 400#32
  ![v296.toNat, 400]
def k0_off187 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v299 : Index := Scalar.indexCast arg12
  let c416 : Index := 416#32
  ![v299.toNat, 416]
def k0_off188 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v302 : Index := Scalar.indexCast arg12
  let c432 : Index := 432#32
  ![v302.toNat, 432]
def k0_off189 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v305 : Index := Scalar.indexCast arg12
  let c448 : Index := 448#32
  ![v305.toNat, 448]
def k0_off190 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v308 : Index := Scalar.indexCast arg12
  let c464 : Index := 464#32
  ![v308.toNat, 464]
def k0_off191 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v311 : Index := Scalar.indexCast arg12
  let c480 : Index := 480#32
  ![v311.toNat, 480]
def k0_off192 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v314 : Index := Scalar.indexCast arg12
  let c496 : Index := 496#32
  ![v314.toNat, 496]
def k0_off193 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v317 : Index := Scalar.indexCast arg12
  let c512 : Index := 512#32
  ![v317.toNat, 512]
def k0_off194 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v320 : Index := Scalar.indexCast arg12
  let c528 : Index := 528#32
  ![v320.toNat, 528]
def k0_off195 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v323 : Index := Scalar.indexCast arg12
  let c544 : Index := 544#32
  ![v323.toNat, 544]
def k0_off196 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v326 : Index := Scalar.indexCast arg12
  let c560 : Index := 560#32
  ![v326.toNat, 560]
def k0_off197 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v329 : Index := Scalar.indexCast arg12
  let c576 : Index := 576#32
  ![v329.toNat, 576]
def k0_off198 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v332 : Index := Scalar.indexCast arg12
  let c592 : Index := 592#32
  ![v332.toNat, 592]
def k0_off199 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v335 : Index := Scalar.indexCast arg12
  let c608 : Index := 608#32
  ![v335.toNat, 608]
def k0_off200 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v338 : Index := Scalar.indexCast arg12
  let c624 : Index := 624#32
  ![v338.toNat, 624]
def k0_off201 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v341 : Index := Scalar.indexCast arg12
  let c640 : Index := 640#32
  ![v341.toNat, 640]
def k0_off202 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v344 : Index := Scalar.indexCast arg12
  let c656 : Index := 656#32
  ![v344.toNat, 656]
def k0_off203 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v347 : Index := Scalar.indexCast arg12
  let c672 : Index := 672#32
  ![v347.toNat, 672]
def k0_off204 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v350 : Index := Scalar.indexCast arg12
  let c688 : Index := 688#32
  ![v350.toNat, 688]
def k0_off205 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v353 : Index := Scalar.indexCast arg12
  let c704 : Index := 704#32
  ![v353.toNat, 704]
def k0_off206 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v356 : Index := Scalar.indexCast arg12
  let c720 : Index := 720#32
  ![v356.toNat, 720]
def k0_off207 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v359 : Index := Scalar.indexCast arg12
  let c736 : Index := 736#32
  ![v359.toNat, 736]
def k0_off208 (k0_t16 : Fin k0_t16_loop.trips) : Fin 2 → Nat :=
  let c0_i32_87 : BitVec 32 := 0#32
  let c1_i32_89 : BitVec 32 := 1#32
  let arg12 : BitVec 32 := Scf.iv c0_i32_87 c1_i32_89 k0_t16
  let v362 : Index := Scalar.indexCast arg12
  let c752 : Index := 752#32
  ![v362.toNat, 752]
@[reducible] def k0_t17_loop (v167 : BitVec 32) (v169 : BitVec 32) : Scf.Loop 32 :=
  let c0_i32_108 : BitVec 32 := 0#32
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let v193 : BitVec 32 := Scalar.subi v169 v192
  let c2048_i32_99 : BitVec 32 := 2048#32
  let v194 : BitVec 32 := Scalar.addi v193 c2048_i32_99
  let c1_i32_100 : BitVec 32 := 1#32
  let v195 : BitVec 32 := Scalar.subi v194 c1_i32_100
  let c0_i32_102 : BitVec 32 := 0#32
  let v197 : BitVec 1 := Scalar.cmpi .sgt v195 c0_i32_102
  let v198 : BitVec 32 := Scalar.extui v197
  let c0_i32_103 : BitVec 32 := 0#32
  let v199 : BitVec 1 := Scalar.cmpi .slt v195 c0_i32_103
  let v200 : BitVec 32 := Scalar.extui v199
  let v201 : BitVec 32 := Scalar.subi v198 v200
  let c2048_i32_101 : BitVec 32 := 2048#32
  let c0_i32_104 : BitVec 32 := 0#32
  let v202 : BitVec 1 := Scalar.cmpi .sgt c2048_i32_101 c0_i32_104
  let v203 : BitVec 32 := Scalar.extui v202
  let c0_i32_105 : BitVec 32 := 0#32
  let v204 : BitVec 1 := Scalar.cmpi .slt c2048_i32_101 c0_i32_105
  let v205 : BitVec 32 := Scalar.extui v204
  let v206 : BitVec 32 := Scalar.subi v203 v205
  let v207 : BitVec 1 := Scalar.cmpi .ne v201 v206
  let v208 : BitVec 32 := Scalar.remsi v195 c2048_i32_101
  let c0_i32_106 : BitVec 32 := 0#32
  let v209 : BitVec 1 := Scalar.cmpi .ne v208 c0_i32_106
  let v210 : BitVec 1 := Scalar.andi v207 v209
  let v196 : BitVec 32 := Scalar.divsi v195 c2048_i32_101
  let c1_i32_107 : BitVec 32 := 1#32
  let v211 : BitVec 32 := Scalar.subi v196 c1_i32_107
  let v212 : BitVec 32 := Scalar.select v210 v211 v196
  let v213 : BitVec 32 := Scalar.subi v212 c0_i32_108
  let c1_i32_110 : BitVec 32 := 1#32
  let v215 : BitVec 32 := Scalar.divsi v213 c1_i32_110
  let v216 : BitVec 32 := Scalar.muli v215 c1_i32_110
  let v217 : BitVec 32 := Scalar.addi c0_i32_108 v216
  let c1_i32_111 : BitVec 32 := 1#32
  ⟨c0_i32_108, v217, c1_i32_111⟩

def k0_mult7 (v167 : BitVec 32) (v169 : BitVec 32) (k0_t17 : Fin (k0_t17_loop v167 v169).trips) : BitVec 32 :=
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let c0_i32_108 : BitVec 32 := 0#32
  let c1_i32_111 : BitVec 32 := 1#32
  let arg12 : BitVec 32 := Scf.iv c0_i32_108 c1_i32_111 k0_t17
  let c2048_i32_113 : BitVec 32 := 2048#32
  let v220 : BitVec 32 := Scalar.muli arg12 c2048_i32_113
  let v221 : BitVec 32 := Scalar.addi v192 v220
  let c522240_i32 : BitVec 32 := 522240#32
  let v222 : BitVec 32 := Scalar.minsi v221 c522240_i32
  v222
def k0_off209 (v167 : BitVec 32) (v169 : BitVec 32) (k0_t17 : Fin (k0_t17_loop v167 v169).trips) : Fin 1 → Nat :=
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let c0_i32_108 : BitVec 32 := 0#32
  let c1_i32_111 : BitVec 32 := 1#32
  let arg12 : BitVec 32 := Scf.iv c0_i32_108 c1_i32_111 k0_t17
  let c2048_i32_113 : BitVec 32 := 2048#32
  let v220 : BitVec 32 := Scalar.muli arg12 c2048_i32_113
  let v221 : BitVec 32 := Scalar.addi v192 v220
  let c522240_i32 : BitVec 32 := 522240#32
  let v222 : BitVec 32 := Scalar.minsi v221 c522240_i32
  let v223 : BitVec 32 := v222
  ![v223.toNat]
@[reducible] def k0_t18_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off210 (k0_t18 : Fin k0_t18_loop.trips) : Fin 1 → Nat :=
  let c0_i32_116 : BitVec 32 := 0#32
  let c1_i32_118 : BitVec 32 := 1#32
  let arg14 : BitVec 32 := Scf.iv c0_i32_116 c1_i32_118 k0_t18
  let c16_i32 : BitVec 32 := 16#32
  let v229 : BitVec 32 := Scalar.muli arg14 c16_i32
  let v230 : Index := Scalar.indexCast v229
  ![v230.toNat]

def k0_chk11 (v248 : IVec S16 32) (v252 : IVec S16 32) : Prop :=
  (∀ a x, ((![v252, v248] : Fin 2 → IVec S16 32) a x).toNat < S128x768.size a)
theorem k0_idx7_inb : ∀ (v248 : IVec S16 32) (v252 : IVec S16 32) (k0_hw11 : k0_chk11 v248 v252), ∀ a x, ((![v252, v248] : Fin 2 → IVec S16 32) a x).toNat < S128x768.size a := fun v248 v252 k0_hw11 => k0_hw11
@[reducible] def k0_t19_loop (v167 : BitVec 32) (v169 : BitVec 32) : Scf.Loop 32 :=
  let c0_i32_108 : BitVec 32 := 0#32
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let v193 : BitVec 32 := Scalar.subi v169 v192
  let c2048_i32_99 : BitVec 32 := 2048#32
  let v194 : BitVec 32 := Scalar.addi v193 c2048_i32_99
  let c1_i32_100 : BitVec 32 := 1#32
  let v195 : BitVec 32 := Scalar.subi v194 c1_i32_100
  let c0_i32_102 : BitVec 32 := 0#32
  let v197 : BitVec 1 := Scalar.cmpi .sgt v195 c0_i32_102
  let v198 : BitVec 32 := Scalar.extui v197
  let c0_i32_103 : BitVec 32 := 0#32
  let v199 : BitVec 1 := Scalar.cmpi .slt v195 c0_i32_103
  let v200 : BitVec 32 := Scalar.extui v199
  let v201 : BitVec 32 := Scalar.subi v198 v200
  let c2048_i32_101 : BitVec 32 := 2048#32
  let c0_i32_104 : BitVec 32 := 0#32
  let v202 : BitVec 1 := Scalar.cmpi .sgt c2048_i32_101 c0_i32_104
  let v203 : BitVec 32 := Scalar.extui v202
  let c0_i32_105 : BitVec 32 := 0#32
  let v204 : BitVec 1 := Scalar.cmpi .slt c2048_i32_101 c0_i32_105
  let v205 : BitVec 32 := Scalar.extui v204
  let v206 : BitVec 32 := Scalar.subi v203 v205
  let v207 : BitVec 1 := Scalar.cmpi .ne v201 v206
  let v208 : BitVec 32 := Scalar.remsi v195 c2048_i32_101
  let c0_i32_106 : BitVec 32 := 0#32
  let v209 : BitVec 1 := Scalar.cmpi .ne v208 c0_i32_106
  let v210 : BitVec 1 := Scalar.andi v207 v209
  let v196 : BitVec 32 := Scalar.divsi v195 c2048_i32_101
  let c1_i32_107 : BitVec 32 := 1#32
  let v211 : BitVec 32 := Scalar.subi v196 c1_i32_107
  let v212 : BitVec 32 := Scalar.select v210 v211 v196
  let v213 : BitVec 32 := Scalar.subi v212 c0_i32_108
  let c1_i32_110 : BitVec 32 := 1#32
  let v215 : BitVec 32 := Scalar.divsi v213 c1_i32_110
  let v216 : BitVec 32 := Scalar.muli v215 c1_i32_110
  let v217 : BitVec 32 := Scalar.addi c0_i32_108 v216
  let v214 : BitVec 32 := Scalar.addi c0_i32_108 v213
  let c1_i32_112 : BitVec 32 := 1#32
  ⟨v217, v214, c1_i32_112⟩
def k0_mult8 (v167 : BitVec 32) (v169 : BitVec 32) (k0_t19 : Fin (k0_t19_loop v167 v169).trips) : BitVec 32 :=
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let c0_i32_108 : BitVec 32 := 0#32
  let v193 : BitVec 32 := Scalar.subi v169 v192
  let c2048_i32_99 : BitVec 32 := 2048#32
  let v194 : BitVec 32 := Scalar.addi v193 c2048_i32_99
  let c1_i32_100 : BitVec 32 := 1#32
  let v195 : BitVec 32 := Scalar.subi v194 c1_i32_100
  let c0_i32_102 : BitVec 32 := 0#32
  let v197 : BitVec 1 := Scalar.cmpi .sgt v195 c0_i32_102
  let v198 : BitVec 32 := Scalar.extui v197
  let c0_i32_103 : BitVec 32 := 0#32
  let v199 : BitVec 1 := Scalar.cmpi .slt v195 c0_i32_103
  let v200 : BitVec 32 := Scalar.extui v199
  let v201 : BitVec 32 := Scalar.subi v198 v200
  let c2048_i32_101 : BitVec 32 := 2048#32
  let c0_i32_104 : BitVec 32 := 0#32
  let v202 : BitVec 1 := Scalar.cmpi .sgt c2048_i32_101 c0_i32_104
  let v203 : BitVec 32 := Scalar.extui v202
  let c0_i32_105 : BitVec 32 := 0#32
  let v204 : BitVec 1 := Scalar.cmpi .slt c2048_i32_101 c0_i32_105
  let v205 : BitVec 32 := Scalar.extui v204
  let v206 : BitVec 32 := Scalar.subi v203 v205
  let v207 : BitVec 1 := Scalar.cmpi .ne v201 v206
  let v208 : BitVec 32 := Scalar.remsi v195 c2048_i32_101
  let c0_i32_106 : BitVec 32 := 0#32
  let v209 : BitVec 1 := Scalar.cmpi .ne v208 c0_i32_106
  let v210 : BitVec 1 := Scalar.andi v207 v209
  let v196 : BitVec 32 := Scalar.divsi v195 c2048_i32_101
  let c1_i32_107 : BitVec 32 := 1#32
  let v211 : BitVec 32 := Scalar.subi v196 c1_i32_107
  let v212 : BitVec 32 := Scalar.select v210 v211 v196
  let v213 : BitVec 32 := Scalar.subi v212 c0_i32_108
  let c1_i32_110 : BitVec 32 := 1#32
  let v215 : BitVec 32 := Scalar.divsi v213 c1_i32_110
  let v216 : BitVec 32 := Scalar.muli v215 c1_i32_110
  let v217 : BitVec 32 := Scalar.addi c0_i32_108 v216
  let c1_i32_112 : BitVec 32 := 1#32
  let arg12 : BitVec 32 := Scf.iv v217 c1_i32_112 k0_t19
  let c2048_i32_113 : BitVec 32 := 2048#32
  let v220 : BitVec 32 := Scalar.muli arg12 c2048_i32_113
  let v221 : BitVec 32 := Scalar.addi v192 v220
  let c522240_i32 : BitVec 32 := 522240#32
  let v222 : BitVec 32 := Scalar.minsi v221 c522240_i32
  v222
def k0_off211 (v167 : BitVec 32) (v169 : BitVec 32) (k0_t19 : Fin (k0_t19_loop v167 v169).trips) : Fin 1 → Nat :=
  let c0_i32_92 : BitVec 32 := 0#32
  let v176 : BitVec 1 := Scalar.cmpi .sgt v167 c0_i32_92
  let v177 : BitVec 32 := Scalar.extui v176
  let c0_i32_93 : BitVec 32 := 0#32
  let v178 : BitVec 1 := Scalar.cmpi .slt v167 c0_i32_93
  let v179 : BitVec 32 := Scalar.extui v178
  let v180 : BitVec 32 := Scalar.subi v177 v179
  let c8_i32_91 : BitVec 32 := 8#32
  let c0_i32_94 : BitVec 32 := 0#32
  let v181 : BitVec 1 := Scalar.cmpi .sgt c8_i32_91 c0_i32_94
  let v182 : BitVec 32 := Scalar.extui v181
  let c0_i32_95 : BitVec 32 := 0#32
  let v183 : BitVec 1 := Scalar.cmpi .slt c8_i32_91 c0_i32_95
  let v184 : BitVec 32 := Scalar.extui v183
  let v185 : BitVec 32 := Scalar.subi v182 v184
  let v186 : BitVec 1 := Scalar.cmpi .ne v180 v185
  let v187 : BitVec 32 := Scalar.remsi v167 c8_i32_91
  let c0_i32_96 : BitVec 32 := 0#32
  let v188 : BitVec 1 := Scalar.cmpi .ne v187 c0_i32_96
  let v189 : BitVec 1 := Scalar.andi v186 v188
  let v175 : BitVec 32 := Scalar.divsi v167 c8_i32_91
  let c1_i32_97 : BitVec 32 := 1#32
  let v190 : BitVec 32 := Scalar.subi v175 c1_i32_97
  let v191 : BitVec 32 := Scalar.select v189 v190 v175
  let c8_i32_98 : BitVec 32 := 8#32
  let v192 : BitVec 32 := Scalar.muli v191 c8_i32_98
  let c0_i32_108 : BitVec 32 := 0#32
  let v193 : BitVec 32 := Scalar.subi v169 v192
  let c2048_i32_99 : BitVec 32 := 2048#32
  let v194 : BitVec 32 := Scalar.addi v193 c2048_i32_99
  let c1_i32_100 : BitVec 32 := 1#32
  let v195 : BitVec 32 := Scalar.subi v194 c1_i32_100
  let c0_i32_102 : BitVec 32 := 0#32
  let v197 : BitVec 1 := Scalar.cmpi .sgt v195 c0_i32_102
  let v198 : BitVec 32 := Scalar.extui v197
  let c0_i32_103 : BitVec 32 := 0#32
  let v199 : BitVec 1 := Scalar.cmpi .slt v195 c0_i32_103
  let v200 : BitVec 32 := Scalar.extui v199
  let v201 : BitVec 32 := Scalar.subi v198 v200
  let c2048_i32_101 : BitVec 32 := 2048#32
  let c0_i32_104 : BitVec 32 := 0#32
  let v202 : BitVec 1 := Scalar.cmpi .sgt c2048_i32_101 c0_i32_104
  let v203 : BitVec 32 := Scalar.extui v202
  let c0_i32_105 : BitVec 32 := 0#32
  let v204 : BitVec 1 := Scalar.cmpi .slt c2048_i32_101 c0_i32_105
  let v205 : BitVec 32 := Scalar.extui v204
  let v206 : BitVec 32 := Scalar.subi v203 v205
  let v207 : BitVec 1 := Scalar.cmpi .ne v201 v206
  let v208 : BitVec 32 := Scalar.remsi v195 c2048_i32_101
  let c0_i32_106 : BitVec 32 := 0#32
  let v209 : BitVec 1 := Scalar.cmpi .ne v208 c0_i32_106
  let v210 : BitVec 1 := Scalar.andi v207 v209
  let v196 : BitVec 32 := Scalar.divsi v195 c2048_i32_101
  let c1_i32_107 : BitVec 32 := 1#32
  let v211 : BitVec 32 := Scalar.subi v196 c1_i32_107
  let v212 : BitVec 32 := Scalar.select v210 v211 v196
  let v213 : BitVec 32 := Scalar.subi v212 c0_i32_108
  let c1_i32_110 : BitVec 32 := 1#32
  let v215 : BitVec 32 := Scalar.divsi v213 c1_i32_110
  let v216 : BitVec 32 := Scalar.muli v215 c1_i32_110
  let v217 : BitVec 32 := Scalar.addi c0_i32_108 v216
  let c1_i32_112 : BitVec 32 := 1#32
  let arg12 : BitVec 32 := Scf.iv v217 c1_i32_112 k0_t19
  let c2048_i32_113 : BitVec 32 := 2048#32
  let v220 : BitVec 32 := Scalar.muli arg12 c2048_i32_113
  let v221 : BitVec 32 := Scalar.addi v192 v220
  let c522240_i32 : BitVec 32 := 522240#32
  let v222 : BitVec 32 := Scalar.minsi v221 c522240_i32
  let v223 : BitVec 32 := v222
  ![v223.toNat]

def k0_chk10 (v167 : BitVec 32) (v169 : BitVec 32) : Prop :=
  ((k0_t17_loop v167 v169).OK) ∧
  (∀ k0_t17 : Fin (k0_t17_loop v167 v169).trips, 8 ∣ (k0_mult7 v167 v169 k0_t17).toNat) ∧
  (∀ k0_t17 : Fin (k0_t17_loop v167 v169).trips, ∀ a, (k0_off209 v167 v169 k0_t17) a + S2048.size a ≤ S524288.size a) ∧
  ((k0_t19_loop v167 v169).OK) ∧
  (∀ k0_t19 : Fin (k0_t19_loop v167 v169).trips, 8 ∣ (k0_mult8 v167 v169 k0_t19).toNat) ∧
  (∀ k0_t19 : Fin (k0_t19_loop v167 v169).trips, ∀ a, (k0_off211 v167 v169 k0_t19) a + S2048.size a ≤ S524288.size a)
theorem k0_t17_ok : ∀ (v167 : BitVec 32) (v169 : BitVec 32) (k0_hw10 : k0_chk10 v167 v169), (k0_t17_loop v167 v169).OK := fun v167 v169 k0_hw10 => k0_hw10.1
theorem k0_mult7_dvd : ∀ (v167 : BitVec 32) (v169 : BitVec 32) (k0_hw10 : k0_chk10 v167 v169) (k0_t17 : Fin (k0_t17_loop v167 v169).trips), 8 ∣ (k0_mult7 v167 v169 k0_t17).toNat := fun v167 v169 k0_hw10 k0_t17 => k0_hw10.2.1 k0_t17
theorem k0_off209_inb : ∀ (v167 : BitVec 32) (v169 : BitVec 32) (k0_hw10 : k0_chk10 v167 v169) (k0_t17 : Fin (k0_t17_loop v167 v169).trips), ∀ a, (k0_off209 v167 v169 k0_t17) a + S2048.size a ≤ S524288.size a := fun v167 v169 k0_hw10 k0_t17 => k0_hw10.2.2.1 k0_t17
theorem k0_t19_ok : ∀ (v167 : BitVec 32) (v169 : BitVec 32) (k0_hw10 : k0_chk10 v167 v169), (k0_t19_loop v167 v169).OK := fun v167 v169 k0_hw10 => k0_hw10.2.2.2.1
theorem k0_mult8_dvd : ∀ (v167 : BitVec 32) (v169 : BitVec 32) (k0_hw10 : k0_chk10 v167 v169) (k0_t19 : Fin (k0_t19_loop v167 v169).trips), 8 ∣ (k0_mult8 v167 v169 k0_t19).toNat := fun v167 v169 k0_hw10 k0_t19 => k0_hw10.2.2.2.2.1 k0_t19
theorem k0_off211_inb : ∀ (v167 : BitVec 32) (v169 : BitVec 32) (k0_hw10 : k0_chk10 v167 v169) (k0_t19 : Fin (k0_t19_loop v167 v169).trips), ∀ a, (k0_off211 v167 v169 k0_t19) a + S2048.size a ≤ S524288.size a := fun v167 v169 k0_hw10 k0_t19 => k0_hw10.2.2.2.2.2 k0_t19

@[reducible] def k0_t20_loop : Scf.Loop 32 :=
  let c0_i32_116 : BitVec 32 := 0#32
  let c128_i32_117 : BitVec 32 := 128#32
  let v227 : BitVec 32 := Scalar.addi c0_i32_116 c128_i32_117
  let c1_i32_118 : BitVec 32 := 1#32
  ⟨c0_i32_116, v227, c1_i32_118⟩
def k0_off212 (k0_t20 : Fin k0_t20_loop.trips) : Fin 1 → Nat :=
  let c0_i32_116 : BitVec 32 := 0#32
  let c1_i32_118 : BitVec 32 := 1#32
  let arg14 : BitVec 32 := Scf.iv c0_i32_116 c1_i32_118 k0_t20
  let c16_i32 : BitVec 32 := 16#32
  let v229 : BitVec 32 := Scalar.muli arg14 c16_i32
  let v230 : Index := Scalar.indexCast v229
  ![v230.toNat]

def k0_chk12 (v248 : IVec S16 32) (v252 : IVec S16 32) : Prop :=
  (∀ a x, ((![v252, v248] : Fin 2 → IVec S16 32) a x).toNat < S128x768.size a)
theorem k0_idx8_inb : ∀ (v248 : IVec S16 32) (v252 : IVec S16 32) (k0_hw12 : k0_chk12 v248 v252), ∀ a x, ((![v252, v248] : Fin 2 → IVec S16 32) a x).toNat < S128x768.size a := fun v248 v252 k0_hw12 => k0_hw12
def k0_off213 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_84 : BitVec 32 := 4#32
  let v170 : BitVec 32 := Scalar.muli v1 c4_i32_84
  let c3_i32 : BitVec 32 := 3#32
  let v171 : BitVec 32 := Scalar.addi v170 c3_i32
  let c128_i32_85 : BitVec 32 := 128#32
  let v172 : BitVec 32 := Scalar.muli v171 c128_i32_85
  let c0_i32_113_r28 : BitVec 32 := 0#32
  ![v172.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S524288 : Shape := ⟨1, ![524288]⟩
abbrev S49152 : Shape := ⟨1, ![49152]⟩
abbrev S768x256 : Shape := ⟨2, ![768, 256]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S16384x768 : Shape := ⟨2, ![16384, 768]⟩
abbrev S524288x2 : Shape := ⟨2, ![524288, 2]⟩
abbrev S16384x256 : Shape := ⟨2, ![16384, 256]⟩

abbrev nBuf : Space → Nat
  | .hbm => 48
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288, .i32⟩
  | .hbm, ⟨2, _⟩ => ⟨S524288, .f32⟩
  | .hbm, ⟨3, _⟩ => ⟨S49152, .i32⟩
  | .hbm, ⟨4, _⟩ => ⟨S768x256, .f32⟩
  | .hbm, ⟨5, _⟩ => ⟨S_, .i32⟩
  | .hbm, ⟨6, _⟩ => ⟨S524288, .i32⟩
  | .hbm, ⟨7, _⟩ => ⟨S524288, .i1⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S524288, .i32⟩
  | .hbm, ⟨12, _⟩ => ⟨S524288x1, .i32⟩
  | .hbm, ⟨13, _⟩ => ⟨S1, .i32⟩
  | .hbm, ⟨14, _⟩ => ⟨S_, .i32⟩
  | .hbm, ⟨15, _⟩ => ⟨S524288x1, .i32⟩
  | .hbm, ⟨16, _⟩ => ⟨S524288x1, .i1⟩
  | .hbm, ⟨17, _⟩ => ⟨S1x1, .i32⟩
  | .hbm, ⟨18, _⟩ => ⟨S524288x1, .i32⟩
  | .hbm, ⟨19, _⟩ => ⟨S524288x1, .i1⟩
  | .hbm, ⟨20, _⟩ => ⟨S524288x1, .i1⟩
  | .hbm, ⟨21, _⟩ => ⟨S_, .i1⟩
  | .hbm, ⟨22, _⟩ => ⟨S524288, .i1⟩
  | .hbm, ⟨23, _⟩ => ⟨S524288, .i32⟩
  | .hbm, ⟨24, _⟩ => ⟨S_, .i32⟩
  | .hbm, ⟨25, _⟩ => ⟨S524288, .i32⟩
  | .hbm, ⟨26, _⟩ => ⟨S524288, .i32⟩
  | .hbm, ⟨27, _⟩ => ⟨S_, .f32⟩
  | .hbm, ⟨28, _⟩ => ⟨S16384x768, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x1, .i32⟩
  | .hbm, ⟨45, _⟩ => ⟨S524288x2, .i32⟩
  | .hbm, ⟨46, _⟩ => ⟨S16384x768, .f32⟩
  | .hbm, ⟨47, _⟩ => ⟨S16384x256, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_c_4 : Ref sig .tc := ⟨.hbm, 24, rfl⟩
abbrev main_call0_v14 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩

abbrev nD : Nat := 1
abbrev τ : Topo := Topo.v7x

variable {F : FTy → Type} [FloatOps F]
-- ==== Proof.Setup.lean ====
/-
  What the proof of the kernel's run is stated over: the program as the launch theorem sees it, the resource algebra,
  the buffers by name, the tile's coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.LoopRemainder
public import Idealize.ShloMosaic.Lib.ShareLeaves
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes, the TensorCore pipeline's rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-! ## A tile's coordinates and its thread -/

abbrev cV (L : grid0.Coords) : Fin τ.nSC := (L 0).castLE hcore0
abbrev jV (L : grid0.Coords) : Fin τ.nSub := (L 1).castLE hsub0
/-- The thread of the tile at `L` on device `d`. -/
abbrev thr (d : Dev nD) (L : grid0.Coords) : Thread nD τ := V d (cV L) (jV L)
/-- A program of the tile at `L`. -/
abbrev TP (F : FTy → Type) (L : grid0.Coords) (α : Type) : Type 1 := Prog (TpuEff nD τ sig (Elt F) Λ₀ (.scVector (cV L) (jV L))) α

/-! ## The buffers -/

abbrev bnM : Memref sig .scVector .hbm S32x16 .i32 := Memref.whole main_v22_scv
abbrev btM : Memref sig .scVector .hbm S524288 .i32 := Memref.whole main_arg0_scv
abbrev acM : Memref sig .scVector .hbm S524288 .i32 := Memref.whole main_arg1_scv
abbrev vlM : Memref sig .scVector .hbm S524288 .f32 := Memref.whole main_arg2_scv
abbrev dnM : Memref sig .scVector .hbm S16384x768 .f32 := Memref.whole main_v23_scv
abbrev s0M : Memref sig .scVector .vmem S16 .i32 := Memref.whole cc0_scratch0
abbrev s1M : Memref sig .scVector .vmem S2048 .i32 := Memref.whole cc0_scratch1
abbrev s2M : Memref sig .scVector .vmem S2048 .i32 := Memref.whole cc0_scratch2
abbrev s3M : Memref sig .scVector .vmem S2048 .f32 := Memref.whole cc0_scratch3
abbrev s4M : Memref sig .scVector .vmem S128x768 .f32 := Memref.whole cc0_scratch4

/-- `M`'s buffer at the tile's thread held at share `q`, whole, with contents `f`. -/
abbrev pt (d : Dev nD) (L : grid0.Coords) {sp : Space} {s : Shape} {e : EltTy} (M : Memref sig .scVector sp s e)
    (q : PosShare TreeShare) (f : Buf (Elt F) (M.view.loc (thr d L))) : sProp 𝕄 :=
  M.view.loc (thr d L) ↦{q} f

end Cert.Proof

end
-- ==== Proof.Zero.lean ====
/-
  The loop that clears a tile's accumulator: 48 stores of sixteen zeros per row.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The offsets of the `u`-th block of sixteen columns of row `t`. -/
abbrev zoff (t : Fin k0_t1_loop.trips) (u : ℕ) : Fin 2 → ℕ := ![(Scalar.indexCast (Scf.iv 0#32 1#32 t)).toNat, 16 * u]

theorem zrow_eq : ∀ t : Fin k0_t1_loop.trips, (Scalar.indexCast (Scf.iv 0#32 1#32 t)).toNat = t.val := by decide +kernel

theorem zoff_inb (t : Fin k0_t1_loop.trips) {u : ℕ} (hu : u < 48) : ∀ a, zoff t u a + S1x16.size a ≤ S128x768.size a := by
  intro a
  have ht : t.val < 128 := t.isLt
  fin_cases a
  · show (Scalar.indexCast (Scf.iv 0#32 1#32 t)).toNat + 1 ≤ 128
    rw [zrow_eq]; omega
  · show 16 * u + 16 ≤ 768
    omega

/-- The zero the accumulator is cleared to. -/
abbrev zF : F .f32 := Scalar.ofBits .f32 0x00000000#32

/-- Columns `16 u …` of row `t` cleared, `n` blocks of sixteen. -/
def zfrom (L : grid0.Coords) (t : Fin k0_t1_loop.trips) : (n u : ℕ) → n + u ≤ 48 → TP F L (BitVec 32)
  | 0, _, _ => pure 0#32
  | n + 1, u, h => do
    let _ld : Vec F S1x16 .f32 ← Prog.lift (.load s4M (Rect.unit (s := S128x768) (zoff t u) S1x16.size (zoff_inb t (by omega))).toLoadRect (View.loadsAt_vmem h_S1x16))
    Prog.lift (.store s4M (Rect.unit (s := S128x768) (zoff t u) S1x16.size (zoff_inb t (by omega))) (shapeCast S1x16 (broadcast S16 (zF (F := F))) shapeCasts_S16_S1x16) Finset.univ (View.stores_vmem_bits_univ h_S1x16 rfl) (.inl rfl))
    zfrom L t n (u + 1) (by omega)

/-- Contents `f` with columns `16 u …` to `16 (u + n)` of row `t` cleared. -/
def zfun (t n u : ℕ) (f : Vec F S128x768 .f32) : Vec F S128x768 .f32 :=
  fun j => if (j 0).val = t ∧ 16 * u ≤ (j 1).val ∧ (j 1).val < 16 * (u + n) then zF (F := F) else f j

variable (d : Dev nD) (L : grid0.Coords)

/-- One block of sixteen stored, then the rest. -/
theorem zfun_step (t : Fin k0_t1_loop.trips) (n u : ℕ) (hu : u < 48) (f : Vec F S128x768 .f32) :
    zfun t.val n (u + 1) (s4M.view.writes (Elt F) f
        [⟨Rect.unit (zoff t u) S1x16.size (zoff_inb t hu), shapeCast S1x16 (broadcast S16 (zF (F := F))) shapeCasts_S16_S1x16⟩])
      = zfun t.val (n + 1) u f := by
  funext j
  have hz := zrow_eq t
  unfold zfun
  by_cases h0 : (j 0).val = t.val ∧ 16 * u ≤ (j 1).val ∧ (j 1).val < 16 * u + 16
  · rw [if_pos (c := _ ∧ _ ∧ (j 1).val < 16 * (u + (n + 1))) ⟨h0.1, h0.2.1, by omega⟩, if_neg (by omega)]
    refine (View.read_writes_cons_hit_of_coords (v := s4M.view) (f := f) (Rect.unit (zoff t u) S1x16.size (zoff_inb t hu)) _ []
      (Fin.cons ⟨0, show 0 < 1 by decide⟩ (Fin.cons ⟨(j 1).val - 16 * u, show _ < 16 by omega⟩ finZeroElim)) j ?_).trans rfl
    intro a
    fin_cases a
    · show (j 0).val = (Scalar.indexCast (Scf.iv 0#32 1#32 t)).toNat + 1 * 0
      omega
    · show (j 1).val = 16 * u + 1 * ((j 1).val - 16 * u)
      omega
  · have hm : s4M.view.writes (Elt F) f
        [⟨Rect.unit (zoff t u) S1x16.size (zoff_inb t hu), shapeCast S1x16 (broadcast S16 (zF (F := F))) shapeCasts_S16_S1x16⟩] j = f j := by
      by_cases h1 : (j 0).val = t.val
      · refine View.read_writes_cons_miss_of_axis (v := s4M.view) (f := f) ⟨Rect.unit (zoff t u) S1x16.size (zoff_inb t hu), _⟩ [] j 1 (16 * u) 16 rfl rfl rfl (by omega)
      · refine View.read_writes_cons_miss_of_axis (v := s4M.view) (f := f) ⟨Rect.unit (zoff t u) S1x16.size (zoff_inb t hu), _⟩ [] j 0 t.val 1 hz rfl rfl (by omega)
    rw [hm]
    congr 1
    apply propext
    constructor
    · rintro ⟨a, b, c⟩; exact ⟨a, by omega, by omega⟩
    · rintro ⟨a, b, c⟩; exact ⟨a, by omega, by omega⟩

theorem wp_zfrom (t : Fin k0_t1_loop.trips) (n u : ℕ) (h : n + u ≤ 48) (f : Vec F S128x768 .f32) :
    pt (F := F) d L s4M fullShare f
      ⊢ wp frame (wpE (defs₀ (F := F)) 𝒱₀ (thr d L) none) Set.univ (zfrom (F := F) L t n u h)
          fun _ => pt (F := F) d L s4M fullShare (zfun t.val n u f) := by
  induction n generalizing u f with
  | zero =>
    have hz : zfun t.val 0 u f = f := by
      funext j; unfold zfun; rw [if_neg]; omega
    simp only [zfrom, Prog.pure_eq_ret, hz]
    iintro Hc
    sl_step
    iexact Hc
  | succ n ih =>
    simp only [zfrom, Prog.lift, Prog.bind_op, Prog.bind_ret]
    iintro Hc
    sl_exec
    iapply (Entails.of_eq (congrArg (pt (F := F) d L s4M fullShare) (zfun_step t n u (by omega) f)))
    iassumption

/-- The accumulator with its first `n` rows cleared. -/
def zrows (n : ℕ) (f : Vec F S128x768 .f32) : Vec F S128x768 .f32 :=
  fun j => if (j 0).val < n then zF (F := F) else f j

theorem zrows_step (n : ℕ) (f : Vec F S128x768 .f32) : zfun n 48 0 (zrows n f) = zrows (n + 1) f := by
  funext j
  have h1 : (j 1).val < 768 := (j 1).isLt
  unfold zfun zrows
  by_cases h : (j 0).val = n
  · rw [if_pos ⟨h, by omega, by omega⟩, if_pos (by omega)]
  · rw [if_neg (by omega)]
    congr 1
    apply propext
    omega

/-- The whole clearing loop. -/
theorem wp_zero (f : Vec F S128x768 .f32) :
    pt (F := F) d L s4M fullShare f
      ⊢ wp frame (wpE (defs₀ (F := F)) 𝒱₀ (thr d L) none) Set.univ
          (Scf.Loop.for k0_t1_loop k0_t1_ok 0#32 (fun t _ => zfrom (F := F) L t 48 0 (by omega)))
          fun _ => pt (F := F) d L s4M fullShare (fun _ => zF (F := F)) := by
  iintro Hc
  sl_for (fun (n : ℕ) (_ : BitVec 32) => pt (F := F) d L s4M fullShare (zrows n f)) $$ [Hc]
  · intro k acc
    have h := wp_zfrom (F := F) d L k 48 0 (by omega) (zrows k.val f)
    rw [zrows_step] at h
    exact h
  · isplitl [Hc]
    · have h0 : zrows 0 f = f := by funext j; unfold zrows; rw [if_neg (by omega)]
      rw [h0]; iexact Hc
    · iintro %acc Hc
      have h1 : zrows (Scf.trips k0_t1_loop.lb k0_t1_loop.ub k0_t1_loop.st) f = fun _ => zF (F := F) := by
        have ht : Scf.trips k0_t1_loop.lb k0_t1_loop.ub k0_t1_loop.st = 128 := by decide +kernel
        funext j
        have : (j 0).val < 128 := (j 0).isLt
        unfold zrows; rw [ht, if_pos this]
      rw [h1]; iexact Hc

end Cert.Proof

end
-- ==== Proof.Bodies.lean ====
/-
  A tile's task as one copy of its row of bounds, then four times the same program of a band of 128 rows.
-/
module

public import proofs.«01_k».proof.Proof.Zero

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The scalars the task computes from a band's two bounds -/

/-- The lane numbers. -/
abbrev laneV : IVec S16 32 := iota .scVector S16 32 [0] iota_S16_d0_w32_scVector
/-- The first bound divided by eight, toward zero. -/
abbrev w13 (s : BitVec 32) : BitVec 32 := Scalar.divsi s 8#32
/-- Whether the first bound's sign differs from eight's. -/
abbrev w24 (s : BitVec 32) : BitVec 1 :=
  Scalar.cmpi .ne (Scalar.subi (Scalar.extui (Scalar.cmpi .sgt s 0#32)) (Scalar.extui (Scalar.cmpi .slt s 0#32)))
    (Scalar.subi (Scalar.extui (Scalar.cmpi .sgt 8#32 0#32)) (Scalar.extui (Scalar.cmpi .slt 8#32 0#32)))
/-- Whether eight leaves a remainder. -/
abbrev w26 (s : BitVec 32) : BitVec 1 := Scalar.cmpi .ne (Scalar.remsi s 8#32) 0#32

/-- A band's program: the accumulator cleared, the band's entries added round by round, the accumulator copied to the band's rows
    of the dense result; over the bounds `s`, `e`, the first row `r0`, the offsets of the rows and the transfers' semaphores. -/
def bandP (L : grid0.Coords) (q0 q1 q2 q3 q4 q5 q6 q7 : DmaSems sig S_) (v3 : Vec F S16 .i32) (s e r0 : BitVec 32) (off : Fin 2 → ℕ)
    (hoff : ∀ a, off a + S128x768.size a ≤ S16384x768.size a) : TP F L PUnit := do
  have hw : k0_chk1 s e := (← Prog.lift (TpuEff.assume (k0_chk1 s e) (k0_chk1.dec s e))).down
  let _a : BitVec 32 ← Scf.Loop.for k0_t1_loop k0_t1_ok 0#32 (fun t _ => zfrom (F := F) L t 48 0 (by omega))
  let v56 : BitVec 32 ← Scf.Loop.for (k0_t2_loop s e) (k0_t2_ok s e hw) 0#32 (k0_t2_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) q0 q1 q2 q3 q4 q5 q6 q7 q1 q2 q3 q4 q5 q6 q7 q1 q2 q3 q4 q5 q6 q7 q1 q2 q3 q4 q5 q6 q7 laneV v3 s e hw r0 (w13 s) (w24 s) (w26 s))
  let _b : BitVec 32 ← Scf.Loop.for (k0_t4_loop s e) (k0_t4_ok s e hw) v56 (k0_t4_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) q0 q1 q2 q3 q4 q5 q6 q7 q1 q2 q3 q4 q5 q6 q7 q1 q2 q3 q4 q5 q6 q7 q1 q2 q3 q4 q5 q6 q7 laneV v3 s e hw r0 (w13 s) (w24 s) (w26 s))
  Prog.lift (.enqueueDma s4M (.here (dnM.slice (Rect.unit (s := S16384x768) off S128x768.size hoff) (fun _ => rfl))) (.dma q7.sem) (Memref.isWhole_whole _).wordExact (View.wordExact_bits rfl) ⟨Or.inl rfl, trivial⟩)
  Prog.lift (.waitDma2 q7.sem s4M (dnM.slice (Rect.unit (s := S16384x768) off S128x768.size hoff) (fun _ => rfl)) (Memref.isWhole_whole _).wordExact (View.wordExact_bits rfl))
  pure ⟨⟩

/-- The tile's number: `2 * subcore + core`. -/
abbrev widW (L : grid0.Coords) : BitVec 32 := Scalar.addi (Scalar.muli (BitVec.ofNat 32 (L 1).val) 2#32) (BitVec.ofNat 32 (L 0).val)
/-- The first row of the tile's `j`-th band. -/
abbrev r0W (L : grid0.Coords) (j : BitVec 32) : BitVec 32 := Scalar.muli (Scalar.addi (Scalar.muli (widW L) 4#32) j) 128#32
/-- The task. -/
def bodyP (L : grid0.Coords) : TP F L PUnit := do
  Prog.lift (.enqueueDma ((bnM.slice (Rect.unit (s := S32x16) (k0_off1 L) S1x16.size (k0_off1_inb L)) (fun _ => rfl)).squeeze S16 squeezes_S1x16_S16) (.here s0M) (.dma cc0_scoped0.sem) ((View.wordExact_bits rfl).reshape _ _) (Memref.isWhole_whole _).wordExact ⟨Or.inl rfl, trivial⟩)
  Prog.lift (.waitDma2 cc0_scoped0.sem ((bnM.slice (Rect.unit (s := S32x16) (k0_off1 L) S1x16.size (k0_off1_inb L)) (fun _ => rfl)).squeeze S16 squeezes_S1x16_S16) s0M ((View.wordExact_bits rfl).reshape _ _) (Memref.isWhole_whole _).wordExact)
  let v3 : Vec F S16 .i32 ← Prog.lift (.load s0M (Rect.unit (s := S16) ![0] S16.size inb_S16_S16_0).toLoadRect (View.loadsAt_vmem h_S16))
  bandP L cc0_scoped0 cc0_scoped1 cc0_scoped2 cc0_scoped3 cc0_scoped4 cc0_scoped5 cc0_scoped6 cc0_scoped7 v3 (extractAt ![0] (k0_pay179 v3) inpos_S1_p0) (extractAt ![0] (k0_pay180 v3) inpos_S1_p0) (r0W L 0#32) (k0_off54 L) (k0_off54_inb L)
  bandP L cc0_scoped0 cc0_scoped8 cc0_scoped9 cc0_scoped10 cc0_scoped11 cc0_scoped12 cc0_scoped13 cc0_scoped14 v3 (extractAt ![0] (k0_pay192 v3) inpos_S1_p0) (extractAt ![0] (k0_pay193 v3) inpos_S1_p0) (r0W L 1#32) (k0_off107 L) (k0_off107_inb L)
  bandP L cc0_scoped0 cc0_scoped15 cc0_scoped16 cc0_scoped17 cc0_scoped18 cc0_scoped19 cc0_scoped20 cc0_scoped21 v3 (extractAt ![0] (k0_pay205 v3) inpos_S1_p0) (extractAt ![0] (k0_pay206 v3) inpos_S1_p0) (r0W L 2#32) (k0_off160 L) (k0_off160_inb L)
  bandP L cc0_scoped0 cc0_scoped22 cc0_scoped23 cc0_scoped24 cc0_scoped25 cc0_scoped26 cc0_scoped27 cc0_scoped28 v3 (extractAt ![0] (k0_pay218 v3) inpos_S1_p0) (extractAt ![0] (k0_pay219 v3) inpos_S1_p0) (r0W L 3#32) (k0_off213 L) (k0_off213_inb L)

theorem body_eq (L : grid0.Coords) : cc0__sc_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 = bodyP L := by
  simp only [cc0__sc_body_eq_skeleton, cc0__sc_body_skel, k0_part21_eq_skeleton, k0_part22_eq_skeleton, k0_part23_eq_skeleton, k0_part24_eq_skeleton,
    k0_part25_eq_skeleton, k0_part26_eq_skeleton, k0_part21_skel, k0_part22_skel, k0_part23_skel, k0_part24_skel, k0_part25_skel, k0_part26_skel,
    bodyP, bandP, bind_assoc, pure_bind]
  rfl

end Cert.Proof

end
-- ==== Proof.Words.lean ====
/-
  The scalars of a band's rounds, read as naturals: the rounds' number, where a round's words start, which lanes a trip masks.
-/
module

public import proofs.«01_k».proof.Proof.Bodies

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Affine

/-- The floor division the kernel spells out: the quotient toward zero, less one where the signs differ and a remainder is left. -/
abbrev fdivW (x c : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

theorem isInt_zero : IsInt 0#32 0 := ofNat 0 ⟨rfl, by decide⟩

theorem isInt_sign {x : BitVec 32} {X : ℤ} (hx : IsInt x X) (h : 0 < X) :
    IsInt (Scalar.subi (Scalar.extui (Scalar.cmpi .sgt x 0#32)) (Scalar.extui (Scalar.cmpi .slt x 0#32))) 1 :=
  subi (extui_holds (sgt_holds hx isInt_zero h) rfl) (extui_fails (slt_fails hx isInt_zero (by omega)) rfl) ⟨by norm_num, by norm_num, by norm_num⟩

/-- Of a non-negative dividend and a positive divisor the floor division is the quotient. -/
theorem isInt_fdiv {x c : BitVec 32} {X C : ℤ} (hx : IsInt x X) (hc : IsInt c C) (h0 : 0 ≤ X) (h1 : 0 < C) (hX : X < 2 ^ 31) :
    IsInt (fdivW x c) (X / C) := by
  have hd : IsInt (Scalar.divsi x c) (X / C) := divsi hx hc ⟨rfl, h0, h1⟩
  have hb : 0 ≤ X / C := Int.ediv_nonneg h0 (by omega)
  have hb' : X / C ≤ X := Int.ediv_le_self _ h0
  have hs : IsInt (Scalar.subi (Scalar.divsi x c) 1#32) (X / C - 1) :=
    subi hd (ofNat 1 ⟨rfl, by decide⟩) ⟨rfl, by omega, by omega⟩
  refine select_fails ?_ hs hd rfl
  rcases eq_or_lt_of_le h0 with h | h
  · subst h
    exact andi_fails_right trivial (ne_fails (remsi hx hc ⟨rfl, le_refl _, h1⟩) isInt_zero (by simp))
  · exact andi_fails_left (ne_fails (isInt_sign hx h) (isInt_sign hc h1) rfl) trivial

/-! ## The band's bounds as naturals -/

/-- A band's entries start at a multiple of eight: the aligned start. -/
abbrev alN (s : BitVec 32) : ℕ := s.toNat / 8 * 8
/-- Where round `t` of the band would start. -/
abbrev plN (s : BitVec 32) (t : ℕ) : ℕ := alN s + 2048 * t
/-- Where its copies start: held back so that they stay inside the arrays. -/
abbrev pN (s : BitVec 32) (t : ℕ) : ℕ := min (plN s t) 522240
/-- The number of rounds. -/
abbrev nbN (s e : BitVec 32) : ℕ := (e.toNat - alN s + 2047) / 2048

/-- The bounds delimit a stretch of the entries. -/
structure BndOK (s e : BitVec 32) : Prop where
  le : s.toNat ≤ e.toNat
  ub : e.toNat ≤ 524288

theorem isInt_nat {x : BitVec 32} (h : x.toNat < 2 ^ 31) : IsInt x x.toNat := by
  have := ofNat (e := (x.toNat : ℤ)) x.toNat ⟨rfl, h⟩
  rwa [BitVec.ofNat_toNat, BitVec.setWidth_eq] at this

theorem toInt_of {x : BitVec 32} {n : ℤ} (h : IsInt x n) : x.toInt = n :=
  le_antisymm (le_of h n le_rfl) (by have := unique h (word x); omega)

theorem toNat_of_isInt {x : BitVec 32} {n : ℕ} (h : IsInt x n) : x.toNat = n := nat_eq h n rfl

variable {s e : BitVec 32}

/-- The aligned start, as the kernel computes it. -/
abbrev alW (s : BitVec 32) : BitVec 32 := Scalar.muli (fdivW s 8#32) 8#32

theorem isInt_al (h : BndOK s e) : IsInt (alW s) (alN s : ℕ) := by
  have h1 := h.le; have h2 := h.ub
  have hd := isInt_fdiv (isInt_nat (x := s) (by omega)) (ofNat 8 ⟨rfl, by decide⟩) (by omega) (by decide) (by omega)
  refine muli hd (ofNat 8 ⟨rfl, by decide⟩) ⟨?_, ?_, ?_⟩
  · push_cast; rfl
  · unfold alN; omega
  · unfold alN; omega

/-- The number of rounds, as the kernel computes it. -/
abbrev nbW (s e : BitVec 32) : BitVec 32 := fdivW (Scalar.subi (Scalar.addi (Scalar.subi e (alW s)) 2048#32) 1#32) 2048#32

theorem isInt_nb (h : BndOK s e) : IsInt (nbW s e) (nbN s e : ℕ) := by
  have h1 := h.le; have h2 := h.ub
  have ha := isInt_al h
  have hb : alN s ≤ s.toNat := by unfold alN; omega
  have h3 : IsInt (Scalar.subi e (alW s)) ((e.toNat : ℤ) - (alN s : ℕ)) :=
    subi (isInt_nat (x := e) (by omega)) ha ⟨rfl, by omega, by omega⟩
  have h4 := addi (e := (e.toNat : ℤ) - (alN s : ℕ) + 2048) h3 (ofNat (e := 2048) 2048 ⟨rfl, by decide⟩) ⟨rfl, by omega, by omega⟩
  have h5 := subi (e := (e.toNat : ℤ) - (alN s : ℕ) + 2047) h4 (ofNat (e := 1) 1 ⟨rfl, by decide⟩) ⟨by omega, by omega, by omega⟩
  have h6 := isInt_fdiv h5 (ofNat (e := 2048) 2048 ⟨rfl, by decide⟩) (by omega) (by decide) (by omega)
  have h7 : ((e.toNat : ℤ) - (alN s : ℕ) + 2047) / 2048 = (nbN s e : ℕ) := by unfold nbN; omega
  rwa [h7] at h6

theorem isInt_ub (h : BndOK s e) : IsInt (k0_t2_loop s e).ub (nbN s e : ℕ) := by
  have h1 := h.le; have h2 := h.ub
  have hn : nbN s e ≤ 257 := by unfold nbN alN; omega
  have h3 : IsInt (Scalar.subi (nbW s e) 0#32) (nbN s e : ℕ) := subi (isInt_nb h) isInt_zero ⟨by omega, by omega, by omega⟩
  show IsInt (Scalar.addi 0#32 (Scalar.muli (Scalar.divsi (Scalar.subi (nbW s e) 0#32) 1#32) 1#32)) (nbN s e : ℕ)
  rw [Scalar.muli_divsi_one]
  exact addi isInt_zero h3 ⟨by omega, by omega, by omega⟩

theorem trips_t2 (h : BndOK s e) : (k0_t2_loop s e).trips = nbN s e :=
  trips_eq (isInt_zero) (isInt_ub h) (ofNat 1 ⟨rfl, by decide⟩) (nbN s e) ⟨by decide, by push_cast; omega⟩

theorem ok_t2 (h : BndOK s e) : (k0_t2_loop s e).OK := by
  have h1 := h.le; have h2 := h.ub
  have hn : nbN s e ≤ 257 := by unfold nbN alN; omega
  exact ok (isInt_zero) (isInt_ub h) (ofNat (e := 1) 1 ⟨rfl, by decide⟩) ⟨by decide, by omega⟩

theorem nb_bound (h : BndOK s e) {t : ℕ} (ht : t < nbN s e) : t < 257 ∧ plN s t < e.toNat := by
  have h1 := h.le; have h2 := h.ub
  unfold nbN at ht; unfold plN
  have := Nat.div_mul_le_self s.toNat 8
  constructor <;> omega

/-- Where round `t` would start, as the kernel computes it. -/
abbrev plW (s : BitVec 32) (t : ℕ) : BitVec 32 := Scalar.addi (alW s) (Scalar.muli (Scf.iv 0#32 1#32 t) 2048#32)

theorem isInt_pl (h : BndOK s e) {t : ℕ} (ht : t < nbN s e) : IsInt (plW s t) (plN s t : ℕ) := by
  have hb := nb_bound h ht
  have h2 := h.ub
  have hi : IsInt (Scf.iv 0#32 1#32 t) (t : ℤ) := iv isInt_zero (ofNat (e := 1) 1 ⟨rfl, by decide⟩) t ⟨by omega, by omega, by omega⟩
  have hm := muli (e := (t : ℤ) * 2048) hi (ofNat (e := 2048) 2048 ⟨rfl, by decide⟩) ⟨rfl, by omega, by omega⟩
  exact addi (isInt_al h) hm ⟨by unfold plN; push_cast; ring, by omega, by omega⟩

theorem isInt_p (h : BndOK s e) {t : ℕ} (ht : t < nbN s e) : IsInt (Scalar.minsi (plW s t) 522240#32) (pN s t : ℕ) :=
  minsi (isInt_pl h ht) (ofNat (e := 522240) 522240 ⟨rfl, by decide⟩) (by unfold pN; push_cast; rfl)

theorem off50_eq (h : BndOK s e) (t : Fin (k0_t2_loop s e).trips) : k0_off50 s e t = ![pN s t.val] := by
  have ht : t.val < nbN s e := t.isLt.trans_eq (trips_t2 h)
  show ![(Scalar.minsi (plW s t) 522240#32).toNat] = _
  rw [toNat_of_isInt (isInt_p h ht)]

theorem chk1_of (h : BndOK s e) : k0_chk1 s e := by
  have hz : (k0_t4_loop s e).trips = 0 := Scf.rem_trips 0#32 (Scalar.subi (nbW s e) 0#32)
  refine ⟨ok_t2 h, ?_, ?_, Scf.rem_ok 0#32 (Scalar.subi (nbW s e) 0#32), ?_, ?_⟩
  · intro t
    have ht : t.val < nbN s e := t.isLt.trans_eq (trips_t2 h)
    show 8 ∣ (Scalar.minsi (plW s t) 522240#32).toNat
    rw [toNat_of_isInt (isInt_p h ht)]
    unfold pN plN alN
    omega
  · intro t a
    rw [off50_eq h t]
    fin_cases a
    show pN s t.val + 2048 ≤ 524288
    unfold pN
    omega
  · intro t; exact absurd (t.isLt.trans_eq hz) (Nat.not_lt_zero _)
  · intro t; exact absurd (t.isLt.trans_eq hz) (Nat.not_lt_zero _)

/-! ## A trip's mask -/

/-- Lane `x` of trip `k` of round `t` reads entry `pN s t + 16 k + x`; the trip adds it when it is one of the round's own. -/
def mskN (s e : BitVec 32) (t k : ℕ) : IVec S16 1 := fun x =>
  if max s.toNat (plN s t) ≤ pN s t + 16 * k + (x 0).val ∧ pN s t + 16 * k + (x 0).val < min e.toNat (plN s t + 2048) then 1#1 else 0#1

theorem lane_ap (x : S16.Idx) : laneV x = BitVec.ofNat 32 (x 0).val := by
  show BitVec.ofNat 32 (0 * 16 + (x 0).val) = _
  rw [Nat.zero_mul, Nat.zero_add]

theorem bit_eq (c : BitVec 1) (P : Prop) [Decidable P] (h : c = 1#1 ↔ P) : c = if P then 1#1 else 0#1 := by
  by_cases hp : P
  · rw [if_pos hp]; exact h.mpr hp
  · rw [if_neg hp]; exact (BitVec.eq_zero_or_eq_one c).resolve_right fun hc => hp (h.mp hc)

theorem pay186_eq (h : BndOK s e) (t : Fin (k0_t2_loop s e).trips) (k : Fin k0_t3_loop.trips) :
    k0_pay186 laneV s e (w13 s) (w24 s) (w26 s) t k = mskN s e t.val k.val := by
  have ht : t.val < nbN s e := t.isLt.trans_eq (trips_t2 h)
  have hk : k.val < 128 := k.isLt
  have hb := nb_bound h ht
  have h1 := h.le; have h2 := h.ub
  funext x
  have hx : (x 0).val < 16 := (x 0).isLt
  have hi : IsInt (Scf.iv 0#32 1#32 k.val) (k.val : ℤ) := iv isInt_zero (ofNat (e := 1) 1 ⟨rfl, by decide⟩) k.val ⟨by omega, by omega, by omega⟩
  have hm := muli (e := (k.val : ℤ) * 16) hi (ofNat (e := 16) 16 ⟨rfl, by decide⟩) ⟨rfl, by omega, by omega⟩
  have hp := isInt_p h ht
  have hp' : pN s t.val ≤ 522240 := by unfold pN; omega
  have hg := addi (e := (pN s t.val : ℤ) + (k.val : ℤ) * 16) hp hm ⟨rfl, by omega, by omega⟩
  have hq := addi (e := (pN s t.val : ℤ) + (k.val : ℤ) * 16 + (x 0).val) hg (ofNat (e := ((x 0).val : ℤ)) (x 0).val ⟨rfl, by omega⟩) ⟨rfl, by omega, by omega⟩
  have hlo := maxsi (e := max (s.toNat : ℤ) (plN s t.val : ℕ)) (isInt_nat (x := s) (by omega)) (isInt_pl h ht) rfl
  have hpl := addi (e := (plN s t.val : ℤ) + 2048) (isInt_pl h ht) (ofNat (e := 2048) 2048 ⟨rfl, by decide⟩) ⟨rfl, by omega, by omega⟩
  have hhi := minsi (e := min (e.toNat : ℤ) ((plN s t.val : ℤ) + 2048)) (isInt_nat (x := e) (by omega)) hpl rfl
  have hq := toInt_of hq
  have hlo := toInt_of hlo
  have hhi := toInt_of hhi
  show IntOp.cmpi .sge (Scalar.addi (Scalar.minsi (plW s t.val) 522240#32) (Scalar.muli (Scf.iv 0#32 1#32 k.val) 16#32) + laneV x) (Scalar.maxsi s (plW s t.val))
    &&& IntOp.cmpi .slt (Scalar.addi (Scalar.minsi (plW s t.val) 522240#32) (Scalar.muli (Scf.iv 0#32 1#32 k.val) 16#32) + laneV x)
      (Scalar.minsi e (Scalar.addi (plW s t.val) 2048#32)) = _
  refine bit_eq _ _ ?_
  rw [show ∀ c d : BitVec 1, (c &&& d = 1#1 ↔ c = 1#1 ∧ d = 1#1) by decide, IntOp.cmpi_sge, IntOp.cmpi_slt, lane_ap]
  rw [show Scalar.addi (Scalar.minsi (plW s t.val) 522240#32) (Scalar.muli (Scf.iv 0#32 1#32 k.val) 16#32) + BitVec.ofNat 32 (x 0).val
    = Scalar.addi (Scalar.addi (Scalar.minsi (plW s t.val) 522240#32) (Scalar.muli (Scf.iv 0#32 1#32 k.val) 16#32)) (BitVec.ofNat 32 (x 0).val) from rfl,
    hq, hlo, hhi]
  omega

end Cert.Proof

end
-- ==== Proof.Vals.lean ====
/-
  What the task computes: a trip of sixteen entries, a round of 2048, a band of 128 rows.
-/
module

public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Entry `n` of the arrays (taken round the arrays' length, so that the definitions are total). -/
def eIx (n : ℕ) : S524288.Idx := fun a => ⟨n % S524288.size a, Nat.mod_lt _ (by fin_cases a; decide)⟩

variable {α : Type}

/-- The 2048 entries from `p` on. -/
def stgN (x : S524288.Idx → α) (p : ℕ) : S2048.Idx → α := fun i => x (eIx (p + (i 0).val))
/-- The sixteen entries from `p` on. -/
def lanesN (x : S524288.Idx → α) (p : ℕ) : S16.Idx → α := fun y => x (eIx (p + (y 0).val))

/-- The rows the trip's lanes add to: the batch index less the band's first row where the lane is masked in, row 0 elsewhere. -/
def rowN (bt : IVec S524288 32) (p : ℕ) (msk : IVec S16 1) (r0 : BitVec 32) : IVec S16 32 :=
  select msk (subi (lanesN bt p) (broadcast S16 r0)) (broadcast S16 0#32)
/-- The columns they add to: the active feature modulo 768. -/
def colN (ac : IVec S524288 32) (p : ℕ) : IVec S16 32 := remsi (lanesN ac p) (broadcast S16 768#32)

/-- A trip: sixteen entries added into the accumulator. -/
def tripN (bt ac : IVec S524288 32) (vl : FVec F S524288 .f32) (s e r0 : BitVec 32) (t k : ℕ) (g : Vec F S128x768 .f32) : Vec F S128x768 .f32 :=
  if h : k0_chk2 (colN ac (pN s t + 16 * k)) (rowN bt (pN s t + 16 * k) (mskN s e t k) r0) then
    storeIdx (e := .f32) g ![rowN bt (pN s t + 16 * k) (mskN s e t k) r0, colN ac (pN s t + 16 * k)] (lanesN vl (pN s t + 16 * k)) (mskN s e t k) true
      (k0_idx1_inb _ _ h)
  else g

/-- The first `n` trips of round `t`. -/
def tripsN (bt ac : IVec S524288 32) (vl : FVec F S524288 .f32) (s e r0 : BitVec 32) (t : ℕ) : ℕ → Vec F S128x768 .f32 → Vec F S128x768 .f32
  | 0, g => g
  | n + 1, g => tripN bt ac vl s e r0 t n (tripsN bt ac vl s e r0 t n g)

/-- The first `n` rounds. -/
def roundsN (bt ac : IVec S524288 32) (vl : FVec F S524288 .f32) (s e r0 : BitVec 32) : ℕ → Vec F S128x768 .f32 → Vec F S128x768 .f32
  | 0, g => g
  | n + 1, g => tripsN bt ac vl s e r0 n 128 (roundsN bt ac vl s e r0 n g)

/-- A band's accumulator: all rounds from zero. -/
def bandN (bt ac : IVec S524288 32) (vl : FVec F S524288 .f32) (s e r0 : BitVec 32) : Vec F S128x768 .f32 :=
  roundsN bt ac vl s e r0 (nbN s e) (fun _ => zF (F := F))

/-- What makes a band's checks hold: its bounds are in order, its entries' batch indices are rows of the band, and the active
    features are non-negative. -/
structure BandOK (bt ac : IVec S524288 32) (s e r0 : BitVec 32) : Prop extends BndOK s e where
  rows : ∀ n, s.toNat ≤ n → n < e.toNat → r0.toNat ≤ (bt (eIx n)).toNat ∧ (bt (eIx n)).toNat < r0.toNat + 128
  cols : ∀ j, (ac j).toNat < 2 ^ 31

theorem chk2_of {bt ac : IVec S524288 32} {s e r0 : BitVec 32} (h : BandOK bt ac s e r0) (t k : ℕ) :
    k0_chk2 (colN ac (pN s t + 16 * k)) (rowN bt (pN s t + 16 * k) (mskN s e t k) r0) := by
  intro a x
  fin_cases a
  · show (rowN bt (pN s t + 16 * k) (mskN s e t k) r0 x).toNat < 128
    show (Scalar.select (mskN s e t k x) (bt (eIx (pN s t + 16 * k + (x 0).val)) - r0) 0#32).toNat < 128
    unfold Scalar.select mskN
    by_cases hm : max s.toNat (plN s t) ≤ pN s t + 16 * k + (x 0).val ∧ pN s t + 16 * k + (x 0).val < min e.toNat (plN s t + 2048)
    · rw [if_pos hm, if_pos (show (1#1 : BitVec 1) = 1 by decide)]
      obtain ⟨h1, h2⟩ := h.rows (pN s t + 16 * k + (x 0).val) (by omega) (by omega)
      have := (bt (eIx (pN s t + 16 * k + (x 0).val))).isLt
      rw [BitVec.toNat_sub]
      omega
    · rw [if_neg hm, if_neg (show ¬ (0#1 : BitVec 1) = 1 by decide)]
      decide
  · show (IntOp.remsi .vector (ac (eIx (pN s t + 16 * k + (x 0).val))) 768#32).toNat < 768
    have := h.cols (eIx (pN s t + 16 * k + (x 0).val))
    rw [IntOp.toNat_remsi .vector (x := ac (eIx (pN s t + 16 * k + (x 0).val))) (by omega) 768 (by decide) (by decide)]
    omega

end Cert.Proof

end
-- ==== Proof.Round.lean ====
/-
  A trip and a round of a band, run.
-/
module

public import proofs.«01_k».proof.Proof.Vals

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Sixteen lanes loaded from a staging buffer. -/
theorem lanes_read {e : EltTy} (M : Memref sig .scVector .vmem S2048 e) (x : S524288.Idx → Elt F e) (f : M.view.ty.Contents (Elt F)) (p : ℕ)
    (hf : M.view.read (Elt F) f = stgN x p) (k : Fin k0_t3_loop.trips) :
    M.view.readAt (Elt F) (Rect.unit (s := S2048) (k0_off51 k) S16.size (k0_off51_inb k)).toLoadRect f = lanesN x (p + 16 * k.val) := by
  funext y
  rw [View.readAt_apply, hf]
  show x (eIx (p + (((Rect.unit (s := S2048) (k0_off51 k) S16.size (k0_off51_inb k)).toLoadRect.idx y) 0).val)) = x (eIx (p + 16 * k.val + (y 0).val))
  rw [LoadRect.idx_apply]
  have h0 : k0_off51 k 0 = 16 * k.val := congrFun (k0_off51_eq k) 0
  show x (eIx (p + (k0_off51 k 0 + 1 * (y 0).val))) = _
  exact congrArg (fun n => x (eIx n)) (by omega)

theorem pt_s4_access (g : Vec F S128x768 .f32) :
    ((s4M.access (.whole S128x768)).loc (thr d L) ↦[(s4M.access (.whole S128x768)).set]{fullShare} g : sProp 𝕄) = pt (F := F) d L s4M fullShare g := by
  rw [show (s4M.access (.whole S128x768)).set = Finset.univ from Memref.set_access_whole (cc0_scratch4 : Ref sig .scVector)]

theorem pt_s4_write (g w : Vec F S128x768 .f32) :
    ((s4M.access (.whole S128x768)).loc (thr d L) ↦[(s4M.access (.whole S128x768)).set]{fullShare}
        ((s4M.access (.whole S128x768)).write (Elt F) g w Finset.univ) : sProp 𝕄) = pt (F := F) d L s4M fullShare w :=
  (congrArg (fun z => ((s4M.access (.whole S128x768)).loc (thr d L) ↦[(s4M.access (.whole S128x768)).set]{fullShare} z : sProp 𝕄))
    (Memref.write_access_whole_univ (Elt F) (cc0_scratch4 : Ref sig .scVector) g w)).trans (pt_s4_access d L w)

theorem s4_read (g : Vec F S128x768 .f32) : (s4M.access (.whole S128x768)).read (Elt F) g = g :=
  Memref.read_access_whole (Elt F) (cc0_scratch4 : Ref sig .scVector) g

/-- The masked addition of a trip, at any index and value vectors within bounds. -/
theorem wp_addIdx (c r : IVec S16 32) (h : k0_chk2 c r) (v : Vec F S16 .f32) (m : IVec S16 1) (g : Vec F S128x768 .f32)
    (hs : (s4M.access (.whole S128x768)).Stores Finset.univ) :
    pt (F := F) d L s4M fullShare g
      ⊢ wp frame (wpE (defs₀ (F := F)) 𝒱₀ (thr d L) none) Set.univ
          (SparseCore.vectorStoreIdx s4M ![r, c] v m true (k0_idx1_inb c r h) hs >>= fun _ => (pure 0#32 : TP F L (BitVec 32)))
          fun _ => pt (F := F) d L s4M fullShare (storeIdx (e := .f32) g ![r, c] v m true (k0_idx1_inb c r h)) := by
  iintro H
  ihave H' := (Entails.of_eq (pt_s4_access (F := F) d L g).symm) $$ H
  iapply (SparseCore.wp_vectorStoreIdx (defs := defs₀ (F := F)) 𝒱₀ (thr d L) none Set.univ (base := s4M) (idxs := ![r, c]) (v := v) (mask := m) (add := true) (h := k0_idx1_inb c r h) (hs := hs) (k := fun _ => (pure 0#32 : TP F L (BitVec 32))) (f := g)) $$ H'
  rw [pt_s4_write, s4_read]
  iintro H
  rw [show (pure 0#32 : TP F L (BitVec 32)) = Prog.ret 0#32 from rfl, wp_ret]
  imodintro
  iexact H

theorem trip_eq {bt ac : IVec S524288 32} {vl : FVec F S524288 .f32} {s e r0 : BitVec 32} (hB : BandOK bt ac s e r0) {t k : ℕ} {c r : IVec S16 32}
    {h : k0_chk2 c r} {v : Vec F S16 .f32} {m : IVec S16 1} (g : Vec F S128x768 .f32) (hc : c = colN ac (pN s t + 16 * k))
    (hr : r = rowN bt (pN s t + 16 * k) (mskN s e t k) r0) (hv : v = lanesN vl (pN s t + 16 * k)) (hm : m = mskN s e t k) :
    storeIdx (e := .f32) g ![r, c] v m true (k0_idx1_inb c r h) = tripN bt ac vl s e r0 t k g := by
  subst hc hr hv hm
  rw [tripN, dif_pos (chk2_of hB t k)]

section Trip
variable (bt ac : IVec S524288 32) (vl : FVec F S524288 .f32) (s e r0 : BitVec 32)
variable (q0 q1 q2 q3 q4 q5 q6 q7 : DmaSems sig S_)

theorem wp_trip (hB : BandOK bt ac s e r0) (v3 : Vec F S16 .i32) (hw : k0_chk1 s e) (t : Fin (k0_t2_loop s e).trips) (k : Fin k0_t3_loop.trips) (x : BitVec 32)
    (g : Vec F S128x768 .f32) :
    iprop(pt (F := F) d L s1M fullShare (stgN bt (pN s t.val)) ∗ pt (F := F) d L s2M fullShare (stgN ac (pN s t.val))
        ∗ pt (F := F) d L s3M fullShare (stgN vl (pN s t.val)) ∗ pt (F := F) d L s4M fullShare g)
      ⊢ wp frame (wpE (defs₀ (F := F)) 𝒱₀ (thr d L) none) Set.univ
          (k0_t3_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) q0 q1 q2 q3 q4 q5 q6 q7 q1 q2 q3 q4 q5 q6 q7 q1 q2 q3 q4 q5 q6 q7 q1 q2 q3 q4 q5 q6 q7 laneV v3 s e hw r0 (w13 s) (w24 s) (w26 s) t k x)
          fun _ => iprop(pt (F := F) d L s1M fullShare (stgN bt (pN s t.val)) ∗ pt (F := F) d L s2M fullShare (stgN ac (pN s t.val))
        ∗ pt (F := F) d L s3M fullShare (stgN vl (pN s t.val)) ∗ pt (F := F) d L s4M fullShare (tripN bt ac vl s e r0 t.val k.val g)) := by
  unfold k0_t3_body
  iintro ⟨H1, H2, H3, H4⟩
  sl_exec
  have e1 : wp_trip.sl.v248 (F := F) d L ac s e t k = colN ac (pN s t.val + 16 * k.val) := by
    unfold wp_trip.sl.v248
    exact congrArg (fun z => remsi z (broadcast S16 768#32)) (lanes_read (F := F) s2M ac (stgN ac (pN s t.val)) (pN s t.val) rfl k)
  have e2 : wp_trip.sl.v252 (F := F) d L bt s e r0 t k = rowN bt (pN s t.val + 16 * k.val) (mskN s e t.val k.val) r0 := by
    unfold wp_trip.sl.v252
    have := pay186_eq (e := e) hB.toBndOK t k
    have h2 := lanes_read (F := F) s1M bt (stgN bt (pN s t.val)) (pN s t.val) rfl k
    unfold k0_pay188
    exact congrArg₂ (fun a b => select a (subi b (broadcast S16 r0)) (broadcast S16 0#32)) this h2
  have hc : k0_chk2 (wp_trip.sl.v248 (F := F) d L ac s e t k) (wp_trip.sl.v252 (F := F) d L bt s e r0 t k) := by
    rw [e1, e2]; exact chk2_of hB t.val k.val
  rw [wp_assume_of _ _ _ _ hc]
  iapply (wp_wand_r Idealize.ShloMosaic.frame _ _)
  isplitl [H4]
  · iapply (wp_addIdx d L (wp_trip.sl.v248 (F := F) d L ac s e t k) (wp_trip.sl.v252 (F := F) d L bt s e r0 t k) hc
      (s3M.view.readAt (Elt F) (Rect.unit (s := S2048) (k0_off51 k) S16.size (k0_off51_inb k)).toLoadRect (stgN vl (pN s t.val)))
      (k0_pay186 laneV s e (w13 s) (w24 s) (w26 s) t k) g (View.stores_vmem_bits_univ h_S128x768 rfl))
    iexact H4
  iintro %a H4
  isplitl [H1]; · iexact H1
  isplitl [H2]; · iexact H2
  isplitl [H3]; · iexact H3
  rw [trip_eq (h := hc) hB g e1 e2 (lanes_read (F := F) s3M vl (stgN vl (pN s t.val)) (pN s t.val) rfl k) (pay186_eq (e := e) hB.toBndOK t k)]
  iexact H4
/-- A round's first three copies fetch 2048 entries of an array. -/
theorem stg_copy {e' : EltTy} (M : Memref sig .scVector .hbm S524288 e') (x : S524288.Idx → Elt F e') (f : M.view.ty.Contents (Elt F))
    (hf : M.view.read (Elt F) f = x) (hB : BndOK s e) (hw : k0_chk1 s e) (t : Fin (k0_t2_loop s e).trips) :
    (M.slice (Rect.unit (s := S524288) (k0_off50 s e t) S2048.size (k0_off50_inb s e hw t)) (fun _ => rfl)).view.read (Elt F) f = stgN x (pN s t.val) := by
  funext y
  have h0 : k0_off50 s e t 0 = pN s t.val := congrFun (off50_eq hB t) 0
  have hlt : k0_off50 s e t 0 + (y 0).val < 524288 := by
    have h1 := k0_off50_inb s e hw t 0
    have h2 : (y 0).val < 2048 := (y 0).isLt
    have h3 : k0_off50 s e t 0 + 2048 ≤ 524288 := h1
    omega
  show M.view.read (Elt F) f _ = _
  rw [hf]
  refine congrArg x ?_
  funext a
  refine Fin.ext ?_
  obtain rfl : a = 0 := Subsingleton.elim a 0
  show k0_off50 s e t 0 + 1 * (y 0).val = (pN s t.val + (y 0).val) % 524288
  rw [← h0, one_mul, Nat.mod_eq_of_lt hlt]

/-- What the tile holds between rounds: shares of the three arrays, the staging buffers at anything, the accumulator at `g`, the
    three copies' semaphores at zero, and the waits it owes. -/
def RoundSt (qs : PosShare TreeShare) (O : CellTallies nD τ sig (HIx 1)) (W : Waits sig (HIx 1)) (q1 q2 q3 : DmaSems sig S_)
    (g : Vec F S128x768 .f32) : sProp 𝕄 :=
  iprop(pt (F := F) d L btM qs bt ∗ pt (F := F) d L acM qs ac ∗ pt (F := F) d L vlM qs vl
    ∗ (∃ f, pt (F := F) d L s1M fullShare f) ∗ (∃ f, pt (F := F) d L s2M fullShare f) ∗ (∃ f, pt (F := F) d L s3M fullShare f)
    ∗ pt (F := F) d L s4M fullShare g
    ∗ semVal (thr d L, SemLoc.dma q1.sem) 0 ∗ semVal (thr d L, SemLoc.dma q2.sem) 0 ∗ semVal (thr d L, SemLoc.dma q3.sem) 0
    ∗ ∃ W', ⌜∀ p ∈ W', p ∈ W ∨ p.2 = none⌝ ∗ owes (thr d L) O W')

theorem wp_round (hB : BandOK bt ac s e r0) (v3 : Vec F S16 .i32) (hw : k0_chk1 s e) (t : Fin (k0_t2_loop s e).trips) (x : BitVec 32)
    (g : Vec F S128x768 .f32) (qs : PosShare TreeShare) (O : CellTallies nD τ sig (HIx 1)) (W : Waits sig (HIx 1)) (hO : ∀ g, O g none = 0) :
    iprop(levAts (K (F := F)).L (K (F := F)).lev ∗ RoundSt (F := F) d L bt ac vl qs O W q1 q2 q3 g)
      ⊢ wp frame (wpE (defs₀ (F := F)) 𝒱₀ (thr d L) none) Set.univ
          (k0_t2_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) q0 q1 q2 q3 q4 q5 q6 q7 q1 q2 q3 q4 q5 q6 q7 q1 q2 q3 q4 q5 q6 q7 q1 q2 q3 q4 q5 q6 q7 laneV v3 s e hw r0 (w13 s) (w24 s) (w26 s) t x)
          fun _ => RoundSt (F := F) d L bt ac vl qs O W q1 q2 q3 (tripsN bt ac vl s e r0 t.val 128 g) := by
  unfold k0_t2_body RoundSt
  iintro ⟨#Hlv, Hb, Ha, Hv, ⟨%f1, H1⟩, ⟨%f2, H2⟩, ⟨%f3, H3⟩, H4, Hq1, Hq2, Hq3, %W', %hW, HO⟩
  ihave Hmw := (show levAts (K (F := F)).L (K (F := F)).lev ⊢ Transfers.MayWaits (thr d L) (default : HIx 1) O from
    (K (F := F)).mayWaits_none (thr := thr d L) hO) $$ Hlv
  sl_exec
  have c1 : View.write (Elt F) s1M.view f1 (wp_round.sl.dma0 (F := F) bt s e hw t) Finset.univ = stgN bt (pN s t.val) :=
    (View.write_whole_univ (Val := Elt F) cc0_scratch1 f1 _).trans (stg_copy (F := F) s e btM bt bt rfl hB.toBndOK hw t)
  have c2 : View.write (Elt F) s2M.view f2 (wp_round.sl.dma0_1 (F := F) ac s e hw t) Finset.univ = stgN ac (pN s t.val) :=
    (View.write_whole_univ (Val := Elt F) cc0_scratch2 f2 _).trans (stg_copy (F := F) s e acM ac ac rfl hB.toBndOK hw t)
  have c3 : View.write (Elt F) s3M.view f3 (wp_round.sl.dma0_2 (F := F) vl s e hw t) Finset.univ = stgN vl (pN s t.val) :=
    (View.write_whole_univ (Val := Elt F) cc0_scratch3 f3 _).trans (stg_copy (F := F) s e vlM vl vl rfl hB.toBndOK hw t)
  ihave H1 := (Entails.of_eq (congrArg (pt (F := F) d L s1M fullShare) c1)) $$ H1
  ihave H2 := (Entails.of_eq (congrArg (pt (F := F) d L s2M fullShare) c2)) $$ H2
  ihave H3 := (Entails.of_eq (congrArg (pt (F := F) d L s3M fullShare) c3)) $$ H3
  sl_for (fun (n : ℕ) (_ : BitVec 32) => iprop(pt (F := F) d L s1M fullShare (stgN bt (pN s t.val)) ∗ pt (F := F) d L s2M fullShare (stgN ac (pN s t.val))
        ∗ pt (F := F) d L s3M fullShare (stgN vl (pN s t.val)) ∗ pt (F := F) d L s4M fullShare (tripsN bt ac vl s e r0 t.val n g))) $$ [H1 H2 H3 H4]
  · intro k acc
    exact wp_trip d L bt ac vl s e r0 q0 q1 q2 q3 q4 q5 q6 q7 hB v3 hw t k acc (tripsN bt ac vl s e r0 t.val k.val g)
  · isplitl [H1]; · iexact H1
    isplitl [H2]; · iexact H2
    isplitl [H3]; · iexact H3
    iexact H4
  · iintro %acc ⟨H1, H2, H3, H4⟩
    have ht : Scf.trips k0_t3_loop.lb k0_t3_loop.ub k0_t3_loop.st = 128 := by decide +kernel
    rw [ht]
    sl_step
    isplitl [Hb]; · iexact Hb
    isplitl [Ha]; · iexact Ha
    isplitl [Hv]; · iexact Hv
    isplitl [H1]; · iexists _; iexact H1
    isplitl [H2]; · iexists _; iexact H2
    isplitl [H3]; · iexists _; iexact H3
    isplitl [H4]; · iexact H4
    isplitl [Hq1]; · iexact Hq1
    isplitl [Hq2]; · iexact Hq2
    isplitl [Hq3]; · iexact Hq3
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW p hp
end Trip

end Cert.Proof

end
-- ==== Proof.Band.lean ====
/-
  A band, run: the accumulator cleared, the rounds, the copy out.
-/
module

public import proofs.«01_k».proof.Proof.Round
public import Idealize.ShloMosaic.Lib.ViewIndex

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (bt ac : IVec S524288 32) (vl : FVec F S524288 .f32) (s e r0 : BitVec 32)
variable (q0 q1 q2 q3 q4 q5 q6 q7 : DmaSems sig S_)

/-- The band's rows of the dense result, as the copy out names them. -/
abbrev rowsM (off : Fin 2 → ℕ) (hoff : ∀ a, off a + S128x768.size a ≤ S16384x768.size a) : Memref sig .scVector .hbm S128x768 .f32 :=
  dnM.slice (Rect.unit (s := S16384x768) off S128x768.size hoff) (fun _ => rfl)

/-- Those rows held outright by the tile, with contents `f` of the whole buffer. -/
abbrev ptRows (off : Fin 2 → ℕ) (hoff : ∀ a, off a + S128x768.size a ≤ S16384x768.size a) (f : Vec F S16384x768 .f32) : sProp 𝕄 :=
  (rowsM off hoff).view.loc (thr d L) ↦[(rowsM off hoff).view.set]{fullShare} f

theorem rows_written (off : Fin 2 → ℕ) (hoff : ∀ a, off a + S128x768.size a ≤ S16384x768.size a) (fd fo : Vec F S16384x768 .f32)
    (w : Vec F S128x768 .f32) (h : (rowsM off hoff).view.read (Elt F) fo = w) :
    ptRows (F := F) d L off hoff ((rowsM off hoff).view.writes (Elt F) fd [⟨Rect.whole S128x768, w⟩]) = ptRows (F := F) d L off hoff fo := by
  refine pointsTo_congr fun i hi => ?_
  obtain ⟨z, -, rfl⟩ := Finset.mem_map.mp hi
  exact View.eq_of_read_eq ((congrFun (View.read_writes_whole (v := (rowsM off hoff).view) (Val := Elt F) fd w) z).trans (congrFun h z).symm)

theorem wp_band (hB : BandOK bt ac s e r0) (v3 : Vec F S16 .i32) (off : Fin 2 → ℕ) (hoff : ∀ a, off a + S128x768.size a ≤ S16384x768.size a)
    (fd fo : Vec F S16384x768 .f32) (hfo : (rowsM off hoff).view.read (Elt F) fo = bandN bt ac vl s e r0) (g : Vec F S128x768 .f32)
    (qs : PosShare TreeShare) (O : CellTallies nD τ sig (HIx 1)) (W : Waits sig (HIx 1)) (hO : ∀ g, O g none = 0) :
    iprop(levAts (K (F := F)).L (K (F := F)).lev ∗ RoundSt (F := F) d L bt ac vl qs O W q1 q2 q3 g ∗ ptRows (F := F) d L off hoff fd
        ∗ semVal (thr d L, SemLoc.dma q7.sem) 0)
      ⊢ wp frame (wpE (defs₀ (F := F)) 𝒱₀ (thr d L) none) Set.univ
          (bandP (F := F) L q0 q1 q2 q3 q4 q5 q6 q7 v3 s e r0 off hoff)
          fun _ => iprop(RoundSt (F := F) d L bt ac vl qs O W q1 q2 q3 (bandN bt ac vl s e r0)
            ∗ ptRows (F := F) d L off hoff fo
            ∗ semVal (thr d L, SemLoc.dma q7.sem) 0) := by
  have hc : k0_chk1 s e := chk1_of hB.toBndOK
  unfold bandP
  iintro ⟨#Hlv, HR, Hd, Hq7⟩
  sl_exec
  unfold RoundSt
  icases HR with ⟨Hb, Ha, Hv, H1, H2, H3, H4, Hq1, Hq2, Hq3, HO⟩
  rw [wp_bind]
  iapply (wp_wand_r Idealize.ShloMosaic.frame _ _)
  isplitl [H4]
  · iapply (wp_zero d L g); iexact H4
  iintro %a H4
  sl_exec
  sl_for (fun (n : ℕ) (_ : BitVec 32) => iprop(levAts (K (F := F)).L (K (F := F)).lev ∗ RoundSt (F := F) d L bt ac vl qs O W q1 q2 q3 (roundsN bt ac vl s e r0 n (fun _ => zF (F := F))))) $$ [Hb Ha Hv H1 H2 H3 H4 Hq1 Hq2 Hq3 HO]
  · intro k acc
    iintro ⟨#Hlv, HR⟩
    iapply (wp_wand_r Idealize.ShloMosaic.frame _ _)
    isplitl [HR]
    · iapply (wp_round d L bt ac vl s e r0 q0 q1 q2 q3 q4 q5 q6 q7 hB v3 hc k acc _ qs O W hO)
      isplitr; · iexact Hlv
      iexact HR
    iintro %a HR
    isplitr; · iexact Hlv
    iexact HR
  · isplitr; · iexact Hlv
    unfold RoundSt
    isplitl [Hb]; · iexact Hb
    isplitl [Ha]; · iexact Ha
    isplitl [Hv]; · iexact Hv
    isplitl [H1]; · iexact H1
    isplitl [H2]; · iexact H2
    isplitl [H3]; · iexact H3
    isplitl [H4]; · iexact H4
    isplitl [Hq1]; · iexact Hq1
    isplitl [Hq2]; · iexact Hq2
    isplitl [Hq3]; · iexact Hq3
    iexact HO
  iintro %acc ⟨-, HR⟩
  have ht : Scf.trips (k0_t2_loop s e).lb (k0_t2_loop s e).ub (k0_t2_loop s e).st = nbN s e := trips_t2 hB.toBndOK
  rw [ht]
  unfold RoundSt
  icases HR with ⟨Hb, Ha, Hv, H1, H2, H3, H4, Hq1, Hq2, Hq3, %W', %hW, HO⟩
  ihave Hmw := (show levAts (K (F := F)).L (K (F := F)).lev ⊢ Transfers.MayWaits (thr d L) (default : HIx 1) O from
    (K (F := F)).mayWaits_none (thr := thr d L) hO) $$ Hlv
  sl_exec
  rw [wp_ret]; imodintro
  isplitr [Hd Hq7]
  · isplitl [Hb]; · iexact Hb
    isplitl [Ha]; · iexact Ha
    isplitl [Hv]; · iexact Hv
    isplitl [H1]; · iexact H1
    isplitl [H2]; · iexact H2
    isplitl [H3]; · iexact H3
    isplitl [H4]; · iexact H4
    isplitl [Hq1]; · iexact Hq1
    isplitl [Hq2]; · iexact Hq2
    isplitl [Hq3]; · iexact Hq3
    iexists _; isplitr
    swap; · iexact HO
    ipureintro; intro p hp
    rcases Finset.mem_insert.mp hp with hp | hp; · exact .inr (hp ▸ rfl)
    exact hW p hp
  isplitl [Hd]
  · iapply (Entails.of_eq (rows_written d L off hoff fd fo _ (hfo.trans rfl)))
    iexact Hd
  iexact Hq7

end Cert.Proof

end
-- ==== Proof.Rows.lean ====
/-
  The bands of the dense result: what each ends as, and the elements dealt to each tile.
-/
module

public import proofs.«01_k».proof.Proof.Band

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tile's row of bounds -/

/-- Word `(w, j)` of the 32 × 16 table of bounds (taken round its sizes, so that it is total). -/
def bnAt (bn : IVec S32x16 32) (w j : ℕ) : BitVec 32 :=
  bn (fun a => ⟨(![w, j] : Fin 2 → ℕ) a % S32x16.size a, Nat.mod_lt _ (by fin_cases a <;> decide)⟩)

/-- Row `w` of the table. -/
def bnRow (bn : IVec S32x16 32) (w : ℕ) : S16.Idx → BitVec 32 := fun x => bnAt bn w (x 0).val

/-- A tile's number. -/
def widN (L : grid0.Coords) : ℕ := 2 * (L 1).val + (L 0).val

theorem widN_lt (L : grid0.Coords) : widN L < 32 := by
  have h0 : (L 0).val < 2 := (L 0).isLt
  have h1 : (L 1).val < 16 := (L 1).isLt
  unfold widN; omega

/-- What band `b` of 128 rows ends as. -/
def bandF (bn : IVec S32x16 32) (bt ac : IVec S524288 32) (vl : FVec F S524288 .f32) (b : ℕ) : Vec F S128x768 .f32 :=
  bandN bt ac vl (bnAt bn (b / 4) (b % 4)) (bnAt bn (b / 4) (b % 4 + 1)) (BitVec.ofNat 32 (b * 128))

/-- What the SparseCore call leaves in the dense result. -/
def denseF (bn : IVec S32x16 32) (bt ac : IVec S524288 32) (vl : FVec F S524288 .f32) : Vec F S16384x768 .f32 := fun i =>
  bandF bn bt ac vl ((i 0).val / 128) (fun a => ⟨(![(i 0).val % 128, (i 1).val] : Fin 2 → ℕ) a % S128x768.size a, Nat.mod_lt _ (by fin_cases a <;> decide)⟩)

/-- Every band's checks hold. -/
def TileOK (bn : IVec S32x16 32) (bt ac : IVec S524288 32) : Prop :=
  ∀ b < 128, BandOK bt ac (bnAt bn (b / 4) (b % 4)) (bnAt bn (b / 4) (b % 4 + 1)) (BitVec.ofNat 32 (b * 128))

/-! ## The dense result's rows, dealt -/

/-- The elements of band `b`. -/
def bandSet (b : ℕ) : Finset S16384x768.Idx := Finset.univ.filter fun i => (i 0).val / 128 = b
/-- The elements of tile `w`. -/
def tileSet (w : ℕ) : Finset S16384x768.Idx := Finset.univ.filter fun i => (i 0).val / 512 = w

theorem mem_bandSet {b : ℕ} {i : S16384x768.Idx} : i ∈ bandSet b ↔ (i 0).val / 128 = b := by simp [bandSet]
theorem mem_tileSet {w : ℕ} {i : S16384x768.Idx} : i ∈ tileSet w ↔ (i 0).val / 512 = w := by simp [tileSet]

theorem disj_band {b b' : ℕ} (h : b ≠ b') : Disjoint (bandSet b) (bandSet b') :=
  Finset.disjoint_left.mpr fun i hi hi' => h ((mem_bandSet.mp hi).symm.trans (mem_bandSet.mp hi'))
theorem disj_tile {w w' : ℕ} (h : w ≠ w') : Disjoint (tileSet w) (tileSet w') :=
  Finset.disjoint_left.mpr fun i hi hi' => h ((mem_tileSet.mp hi).symm.trans (mem_tileSet.mp hi'))

theorem tileSet_eq (w : ℕ) : tileSet w = bandSet (4 * w) ∪ (bandSet (4 * w + 1) ∪ (bandSet (4 * w + 2) ∪ bandSet (4 * w + 3))) := by
  ext i
  simp only [Finset.mem_union, mem_bandSet, mem_tileSet]
  omega

/-- The dense result, at the TensorCore's name for it. -/
abbrev dLoc (d : Dev nD) : Loc nD τ sig := (SparseCore.T d).loc main_v23

/-- A tile's elements are its four bands'. -/
theorem pointsTo_tile (d : Dev nD) (w : ℕ) (f : Vec F S16384x768 .f32) :
    (dLoc d ↦[tileSet w]{fullShare} f : sProp 𝕄)
      = iprop((dLoc d ↦[bandSet (4 * w)]{fullShare} f) ∗ (dLoc d ↦[bandSet (4 * w + 1)]{fullShare} f)
          ∗ (dLoc d ↦[bandSet (4 * w + 2)]{fullShare} f) ∗ (dLoc d ↦[bandSet (4 * w + 3)]{fullShare} f)) := by
  have key : ∀ I J : Finset (Idx (dLoc d)), Disjoint I J →
      (dLoc d ↦[I ∪ J]{fullShare} f : sProp 𝕄) = iprop((dLoc d ↦[I]{fullShare} f) ∗ dLoc d ↦[J]{fullShare} f) := fun I J h =>
    BI.Entails.antisymm (pointsTo_union h).1 (pointsTo_union h).2
  have e1 := key (bandSet (4 * w)) (bandSet (4 * w + 1) ∪ (bandSet (4 * w + 2) ∪ bandSet (4 * w + 3)))
    (Finset.disjoint_union_right.mpr ⟨disj_band (by omega), Finset.disjoint_union_right.mpr ⟨disj_band (by omega), disj_band (by omega)⟩⟩)
  have e2 := key (bandSet (4 * w + 1)) (bandSet (4 * w + 2) ∪ bandSet (4 * w + 3))
    (Finset.disjoint_union_right.mpr ⟨disj_band (by omega), disj_band (by omega)⟩)
  have e3 := key (bandSet (4 * w + 2)) (bandSet (4 * w + 3)) (disj_band (by omega))
  rw [e3] at e2; rw [e2] at e1
  exact (congrArg (fun S : Finset (Idx (dLoc d)) => (dLoc d ↦[S]{fullShare} f : sProp 𝕄)) (tileSet_eq w)).trans e1

/-- The rows the copy out writes are the band's. -/
theorem set_rowsM {off : Fin 2 → ℕ} (hoff : ∀ a, off a + S128x768.size a ≤ S16384x768.size a) {b : ℕ} (h : off = ![b * 128, 0]) :
    (rowsM off hoff).view.set = bandSet b := by
  subst h
  ext i
  rw [show (rowsM ![b * 128, 0] hoff).view.set = (Rect.unit (s := S16384x768) ![b * 128, 0] S128x768.size hoff).set from View.set_slice_whole main_v23_scv _,
    mem_bandSet, Rect.mem_set_unit]
  have h1 : (i 1).val < 768 := (i 1).isLt
  constructor
  · intro hi
    have h0 := hi 0
    have h0' : b * 128 ≤ (i 0).val ∧ (i 0).val < b * 128 + 128 := h0
    omega
  · intro hi a
    fin_cases a
    · show b * 128 ≤ (i 0).val ∧ (i 0).val < b * 128 + 128
      omega
    · show 0 ≤ (i 1).val ∧ (i 1).val < 0 + 768
      omega

/-- Read through those rows, the dense result is the band's. -/
theorem read_denseF (bn : IVec S32x16 32) (bt ac : IVec S524288 32) (vl : FVec F S524288 .f32) {off : Fin 2 → ℕ}
    (hoff : ∀ a, off a + S128x768.size a ≤ S16384x768.size a) {b : ℕ} (h : off = ![b * 128, 0]) :
    (rowsM off hoff).view.read (Elt F) (denseF bn bt ac vl) = bandF bn bt ac vl b := by
  subst h
  funext y
  have h0 : (y 0).val < 128 := (y 0).isLt
  have h1 : (y 1).val < 768 := (y 1).isLt
  show bandF bn bt ac vl ((b * 128 + 1 * (y 0).val) / 128) _ = bandF bn bt ac vl b y
  rw [show (b * 128 + 1 * (y 0).val) / 128 = b by omega]
  refine congrArg (bandF bn bt ac vl b) (funext fun a => Fin.ext ?_)
  fin_cases a
  · show ((b * 128 + 1 * (y 0).val) % 128) % 128 = (y 0).val
    omega
  · show (0 + 1 * (y 1).val) % 768 = (y 1).val
    omega

end Cert.Proof

end
-- ==== Proof.Tile.lean ====
/-
  A tile's whole task, run.
-/
module

public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)
variable (bn : IVec S32x16 32) (bt ac : IVec S524288 32) (vl : FVec F S524288 .f32)

/-! The words of the row of bounds, as the task takes them out. -/

theorem ext0 (w : ℕ) : extractAt ![0] (k0_pay179 (F := F) (bnRow bn w)) inpos_S1_p0 = bnAt bn w 0 := rfl
theorem ext1 (w : ℕ) : extractAt ![0] (k0_pay180 (F := F) (bnRow bn w)) inpos_S1_p0 = bnAt bn w 1 := rfl
theorem ext1' (w : ℕ) : extractAt ![0] (k0_pay192 (F := F) (bnRow bn w)) inpos_S1_p0 = bnAt bn w 1 := rfl
theorem ext2 (w : ℕ) : extractAt ![0] (k0_pay193 (F := F) (bnRow bn w)) inpos_S1_p0 = bnAt bn w 2 := rfl
theorem ext2' (w : ℕ) : extractAt ![0] (k0_pay205 (F := F) (bnRow bn w)) inpos_S1_p0 = bnAt bn w 2 := rfl
theorem ext3 (w : ℕ) : extractAt ![0] (k0_pay206 (F := F) (bnRow bn w)) inpos_S1_p0 = bnAt bn w 3 := rfl
theorem ext3' (w : ℕ) : extractAt ![0] (k0_pay218 (F := F) (bnRow bn w)) inpos_S1_p0 = bnAt bn w 3 := rfl
theorem ext4 (w : ℕ) : extractAt ![0] (k0_pay219 (F := F) (bnRow bn w)) inpos_S1_p0 = bnAt bn w 4 := rfl

/-- The first row of the tile's `j`-th band. -/
theorem r0W_eq : ∀ (L : grid0.Coords) (j : Fin 4), r0W L (BitVec.ofNat 32 j.val) = BitVec.ofNat 32 ((4 * widN L + j.val) * 128) := by decide +kernel

/-- What the tile fetches first: its row of bounds. -/
theorem row_read : ((bnM.slice (Rect.unit (s := S32x16) (k0_off1 L) S1x16.size (k0_off1_inb L)) (fun _ => rfl)).squeeze S16 squeezes_S1x16_S16).view.read (Elt F) bn
    = bnRow bn (widN L) := by
  funext x
  refine congrArg bn ?_
  have hr : Shape.reshapeEquiv (s := S1x16) (s' := S16) squeezes_S1x16_S16.numel_eq x = Fin.cons ⟨0, Nat.one_pos⟩ x :=
    Shape.reshapeEquiv_cons_one (n := 1) (d := ![16]) squeezes_S1x16_S16.numel_eq x
  have h0 : k0_off1 L 0 = widN L := congrFun (k0_off1_eq L) 0
  have h1 : k0_off1 L 1 = 0 := congrFun (k0_off1_eq L) 1
  have hw : widN L < 32 := widN_lt L
  have hx : (x 0).val < 16 := (x 0).isLt
  refine (congrArg (Rect.unit (s := S32x16) (k0_off1 L) S1x16.size (k0_off1_inb L)).idx hr).trans ?_
  funext a
  refine Fin.ext ?_
  match a with
  | ⟨0, _⟩ =>
    show k0_off1 L 0 + 1 * 0 = widN L % 32
    omega
  | ⟨1, _⟩ =>
    show k0_off1 L 1 + 1 * (x 0).val = (x 0).val % 16
    omega

/-- A semaphore of the tile at zero. -/
abbrev sm (q : DmaSems sig S_) : sProp 𝕄 := semVal (thr d L, SemLoc.dma q.sem) 0

/-- The task's first steps: its row of bounds copied in and loaded. -/
def fetchP : TP F L (Vec F S16 .i32) := do
  Prog.lift (.enqueueDma ((bnM.slice (Rect.unit (s := S32x16) (k0_off1 L) S1x16.size (k0_off1_inb L)) (fun _ => rfl)).squeeze S16 squeezes_S1x16_S16) (.here s0M) (.dma cc0_scoped0.sem) ((View.wordExact_bits rfl).reshape _ _) (Memref.isWhole_whole _).wordExact ⟨Or.inl rfl, trivial⟩)
  Prog.lift (.waitDma2 cc0_scoped0.sem ((bnM.slice (Rect.unit (s := S32x16) (k0_off1 L) S1x16.size (k0_off1_inb L)) (fun _ => rfl)).squeeze S16 squeezes_S1x16_S16) s0M ((View.wordExact_bits rfl).reshape _ _) (Memref.isWhole_whole _).wordExact)
  Prog.lift (.load s0M (Rect.unit (s := S16) ![0] S16.size inb_S16_S16_0).toLoadRect (View.loadsAt_vmem h_S16))

/-- The four bands. -/
def bandsP (v3 : Vec F S16 .i32) : TP F L PUnit := do
  bandP L cc0_scoped0 cc0_scoped1 cc0_scoped2 cc0_scoped3 cc0_scoped4 cc0_scoped5 cc0_scoped6 cc0_scoped7 v3 (extractAt ![0] (k0_pay179 v3) inpos_S1_p0) (extractAt ![0] (k0_pay180 v3) inpos_S1_p0) (r0W L 0#32) (k0_off54 L) (k0_off54_inb L)
  bandP L cc0_scoped0 cc0_scoped8 cc0_scoped9 cc0_scoped10 cc0_scoped11 cc0_scoped12 cc0_scoped13 cc0_scoped14 v3 (extractAt ![0] (k0_pay192 v3) inpos_S1_p0) (extractAt ![0] (k0_pay193 v3) inpos_S1_p0) (r0W L 1#32) (k0_off107 L) (k0_off107_inb L)
  bandP L cc0_scoped0 cc0_scoped15 cc0_scoped16 cc0_scoped17 cc0_scoped18 cc0_scoped19 cc0_scoped20 cc0_scoped21 v3 (extractAt ![0] (k0_pay205 v3) inpos_S1_p0) (extractAt ![0] (k0_pay206 v3) inpos_S1_p0) (r0W L 2#32) (k0_off160 L) (k0_off160_inb L)
  bandP L cc0_scoped0 cc0_scoped22 cc0_scoped23 cc0_scoped24 cc0_scoped25 cc0_scoped26 cc0_scoped27 cc0_scoped28 v3 (extractAt ![0] (k0_pay218 v3) inpos_S1_p0) (extractAt ![0] (k0_pay219 v3) inpos_S1_p0) (r0W L 3#32) (k0_off213 L) (k0_off213_inb L)

theorem bodyP_eq : bodyP (F := F) L = fetchP L >>= bandsP L := rfl

theorem wp_fetch (f0 : Vec F S16 .i32) (qs : PosShare TreeShare) (O : CellTallies nD τ sig (HIx 1)) (W : Waits sig (HIx 1)) (hO : ∀ g, O g none = 0) :
    iprop(levAts (K (F := F)).L (K (F := F)).lev ∗ pt (F := F) d L bnM qs bn ∗ pt (F := F) d L s0M fullShare f0 ∗ sm (F := F) d L cc0_scoped0 ∗ owes (thr d L) O W)
      ⊢ wp frame (wpE (defs₀ (F := F)) 𝒱₀ (thr d L) none) Set.univ (fetchP (F := F) L)
          fun v => iprop(⌜v = bnRow bn (widN L)⌝ ∗ pt (F := F) d L bnM qs bn ∗ (∃ f, pt (F := F) d L s0M fullShare f) ∗ sm (F := F) d L cc0_scoped0
            ∗ ∃ W', ⌜∀ p ∈ W', p ∈ W ∨ p.2 = none⌝ ∗ owes (thr d L) O W') := by
  unfold fetchP
  iintro ⟨#Hlv, Hn, H0, Hq0, HO⟩
  ihave Hmw := (show levAts (K (F := F)).L (K (F := F)).lev ⊢ Transfers.MayWaits (thr d L) (default : HIx 1) O from
    (K (F := F)).mayWaits_none (thr := thr d L) hO) $$ Hlv
  sl_exec
  rw [wp_ret]; imodintro
  isplitr
  · ipureintro
    funext x
    rw [View.readAt_apply]
    refine (congrFun (View.write_whole_univ (Val := Elt F) cc0_scratch0 f0 _) _).trans ((congrFun (row_read (F := F) L bn) _).trans (congrArg (bnRow bn (widN L)) ?_))
    funext a
    refine Fin.ext ?_
    match a with
    | ⟨0, _⟩ =>
      show 0 + 1 * (x 0).val = (x 0).val
      omega
  isplitl [Hn]; · iexact Hn
  isplitl [H0]; · iexists _; iexact H0
  isplitl [Hq0]; · iexact Hq0
  iexists _; isplitr
  swap; · iexact HO
  ipureintro; intro p hp
  rcases Finset.mem_insert.mp hp with hp | hp; · exact .inr (hp ▸ rfl)
  exact .inl hp

/-- What passes from band to band. -/
def CoreSt (qs : PosShare TreeShare) (O : CellTallies nD τ sig (HIx 1)) (W : Waits sig (HIx 1)) : sProp 𝕄 :=
  iprop(pt (F := F) d L btM qs bt ∗ pt (F := F) d L acM qs ac ∗ pt (F := F) d L vlM qs vl
    ∗ (∃ f, pt (F := F) d L s1M fullShare f) ∗ (∃ f, pt (F := F) d L s2M fullShare f) ∗ (∃ f, pt (F := F) d L s3M fullShare f)
    ∗ (∃ f, pt (F := F) d L s4M fullShare f) ∗ ∃ W', ⌜∀ p ∈ W', p ∈ W ∨ p.2 = none⌝ ∗ owes (thr d L) O W')

theorem core_fold (qs : PosShare TreeShare) (O : CellTallies nD τ sig (HIx 1)) (W : Waits sig (HIx 1)) :
    iprop(pt (F := F) d L btM qs bt ∗ pt (F := F) d L acM qs ac ∗ pt (F := F) d L vlM qs vl
      ∗ (∃ f, pt (F := F) d L s1M fullShare f) ∗ (∃ f, pt (F := F) d L s2M fullShare f) ∗ (∃ f, pt (F := F) d L s3M fullShare f)
      ∗ (∃ f, pt (F := F) d L s4M fullShare f) ∗ ∃ W', ⌜∀ p ∈ W', p ∈ W ∨ p.2 = none⌝ ∗ owes (thr d L) O W')
      ⊢ CoreSt (F := F) d L bt ac vl qs O W := Entails.of_eq rfl

theorem wp_bandStep (hB : TileOK bn bt ac) (fd : Vec F S16384x768 .f32) (q0 q1 q2 q3 q4 q5 q6 q7 : DmaSems sig S_) (v3 : Vec F S16 .i32)
    {w j : ℕ} (hw : w < 32) (hj : j < 4) (r0 : BitVec 32) (hr : r0 = BitVec.ofNat 32 ((4 * w + j) * 128))
    (off : Fin 2 → ℕ) (hoff : ∀ a, off a + S128x768.size a ≤ S16384x768.size a) (ho : off = ![(4 * w + j) * 128, 0])
    (qs : PosShare TreeShare) (O : CellTallies nD τ sig (HIx 1)) (W : Waits sig (HIx 1)) (hO : ∀ g, O g none = 0) :
    iprop(levAts (K (F := F)).L (K (F := F)).lev ∗ CoreSt (F := F) d L bt ac vl qs O W ∗ ptRows (F := F) d L off hoff fd
        ∗ sm (F := F) d L q1 ∗ sm (F := F) d L q2 ∗ sm (F := F) d L q3 ∗ sm (F := F) d L q7)
      ⊢ wp frame (wpE (defs₀ (F := F)) 𝒱₀ (thr d L) none) Set.univ
          (bandP (F := F) L q0 q1 q2 q3 q4 q5 q6 q7 v3 (bnAt bn w j) (bnAt bn w (j + 1)) r0 off hoff)
          fun _ => iprop(CoreSt (F := F) d L bt ac vl qs O W ∗ ptRows (F := F) d L off hoff (denseF bn bt ac vl)
            ∗ sm (F := F) d L q1 ∗ sm (F := F) d L q2 ∗ sm (F := F) d L q3 ∗ sm (F := F) d L q7) := by
  have h4 : (4 * w + j) / 4 = w := by omega
  have h4' : (4 * w + j) % 4 = j := by omega
  have hb := hB (4 * w + j) (by omega)
  have hr' := read_denseF bn bt ac vl hoff ho
  unfold bandF at hr'
  rw [h4, h4'] at hb hr'
  subst hr
  unfold CoreSt
  iintro ⟨#Hlv, ⟨Hb, Ha, Hv, H1, H2, H3, ⟨%g, H4⟩, HO⟩, Hd, Hq1, Hq2, Hq3, Hq7⟩
  iapply (wp_wand_r Idealize.ShloMosaic.frame _ _)
  isplitl [Hb Ha Hv H1 H2 H3 H4 HO Hd Hq1 Hq2 Hq3 Hq7]
  · iapply (wp_band d L bt ac vl _ _ _ q0 q1 q2 q3 q4 q5 q6 q7 hb v3 off hoff fd (denseF bn bt ac vl) hr' g qs O W hO)
    isplitr; · iexact Hlv
    isplitr [Hd Hq7]
    · unfold RoundSt
      isplitl [Hb]; · iexact Hb
      isplitl [Ha]; · iexact Ha
      isplitl [Hv]; · iexact Hv
      isplitl [H1]; · iexact H1
      isplitl [H2]; · iexact H2
      isplitl [H3]; · iexact H3
      isplitl [H4]; · iexact H4
      isplitl [Hq1]; · iexact Hq1
      isplitl [Hq2]; · iexact Hq2
      isplitl [Hq3]; · iexact Hq3
      iexact HO
    isplitl [Hd]; · iexact Hd
    iexact Hq7
  iintro %a ⟨HR, Hd, Hq7⟩
  unfold RoundSt
  icases HR with ⟨Hb, Ha, Hv, H1, H2, H3, H4, Hq1, Hq2, Hq3, HO⟩
  isplitr [Hd Hq1 Hq2 Hq3 Hq7]
  · isplitl [Hb]; · iexact Hb
    isplitl [Ha]; · iexact Ha
    isplitl [Hv]; · iexact Hv
    isplitl [H1]; · iexact H1
    isplitl [H2]; · iexact H2
    isplitl [H3]; · iexact H3
    isplitl [H4]; · iexists _; iexact H4
    iexact HO
  isplitl [Hd]; · iexact Hd
  isplitl [Hq1]; · iexact Hq1
  isplitl [Hq2]; · iexact Hq2
  isplitl [Hq3]; · iexact Hq3
  iexact Hq7

theorem off54_rows : k0_off54 L = ![(4 * widN L + 0) * 128, 0] := (k0_off54_eq L).trans (congrArg (fun n : ℕ => ![n, 0]) (by unfold widN; omega))
theorem off107_rows : k0_off107 L = ![(4 * widN L + 1) * 128, 0] := (k0_off107_eq L).trans (congrArg (fun n : ℕ => ![n, 0]) (by unfold widN; omega))
theorem off160_rows : k0_off160 L = ![(4 * widN L + 2) * 128, 0] := (k0_off160_eq L).trans (congrArg (fun n : ℕ => ![n, 0]) (by unfold widN; omega))
theorem off213_rows : k0_off213 L = ![(4 * widN L + 3) * 128, 0] := (k0_off213_eq L).trans (congrArg (fun n : ℕ => ![n, 0]) (by unfold widN; omega))

theorem wp_tile (hB : TileOK bn bt ac) (fd : Vec F S16384x768 .f32)
    (qs : PosShare TreeShare) (O : CellTallies nD τ sig (HIx 1)) (W : Waits sig (HIx 1)) (hO : ∀ g, O g none = 0) :
    iprop(levAts (K (F := F)).L (K (F := F)).lev
        ∗ (pt (F := F) d L bnM qs bn ∗ pt (F := F) d L btM qs bt ∗ pt (F := F) d L acM qs ac ∗ pt (F := F) d L vlM qs vl
          ∗ ptRows (F := F) d L (k0_off54 L) (k0_off54_inb L) fd ∗ ptRows (F := F) d L (k0_off107 L) (k0_off107_inb L) fd
          ∗ ptRows (F := F) d L (k0_off160 L) (k0_off160_inb L) fd ∗ ptRows (F := F) d L (k0_off213 L) (k0_off213_inb L) fd)
        ∗ ((∃ f, pt (F := F) d L s0M fullShare f) ∗ (∃ f, pt (F := F) d L s1M fullShare f) ∗ (∃ f, pt (F := F) d L s2M fullShare f)
          ∗ (∃ f, pt (F := F) d L s3M fullShare f) ∗ (∃ f, pt (F := F) d L s4M fullShare f))
        ∗ (sm (F := F) d L cc0_scoped0 ∗ sm (F := F) d L cc0_scoped1 ∗ sm (F := F) d L cc0_scoped2 ∗ sm (F := F) d L cc0_scoped3 ∗ sm (F := F) d L cc0_scoped7 ∗ sm (F := F) d L cc0_scoped8 ∗ sm (F := F) d L cc0_scoped9 ∗ sm (F := F) d L cc0_scoped10 ∗ sm (F := F) d L cc0_scoped14 ∗ sm (F := F) d L cc0_scoped15 ∗ sm (F := F) d L cc0_scoped16 ∗ sm (F := F) d L cc0_scoped17 ∗ sm (F := F) d L cc0_scoped21 ∗ sm (F := F) d L cc0_scoped22 ∗ sm (F := F) d L cc0_scoped23 ∗ sm (F := F) d L cc0_scoped24 ∗ sm (F := F) d L cc0_scoped28)
        ∗ owes (thr d L) O W)
      ⊢ wp frame (wpE (defs₀ (F := F)) 𝒱₀ (thr d L) none) Set.univ (bodyP (F := F) L)
          fun _ => iprop((pt (F := F) d L bnM qs bn ∗ pt (F := F) d L btM qs bt ∗ pt (F := F) d L acM qs ac ∗ pt (F := F) d L vlM qs vl
          ∗ ptRows (F := F) d L (k0_off54 L) (k0_off54_inb L) (denseF bn bt ac vl) ∗ ptRows (F := F) d L (k0_off107 L) (k0_off107_inb L) (denseF bn bt ac vl)
          ∗ ptRows (F := F) d L (k0_off160 L) (k0_off160_inb L) (denseF bn bt ac vl) ∗ ptRows (F := F) d L (k0_off213 L) (k0_off213_inb L) (denseF bn bt ac vl))
        ∗ ((∃ f, pt (F := F) d L s0M fullShare f) ∗ (∃ f, pt (F := F) d L s1M fullShare f) ∗ (∃ f, pt (F := F) d L s2M fullShare f)
          ∗ (∃ f, pt (F := F) d L s3M fullShare f) ∗ (∃ f, pt (F := F) d L s4M fullShare f))
        ∗ (sm (F := F) d L cc0_scoped0 ∗ sm (F := F) d L cc0_scoped1 ∗ sm (F := F) d L cc0_scoped2 ∗ sm (F := F) d L cc0_scoped3 ∗ sm (F := F) d L cc0_scoped7 ∗ sm (F := F) d L cc0_scoped8 ∗ sm (F := F) d L cc0_scoped9 ∗ sm (F := F) d L cc0_scoped10 ∗ sm (F := F) d L cc0_scoped14 ∗ sm (F := F) d L cc0_scoped15 ∗ sm (F := F) d L cc0_scoped16 ∗ sm (F := F) d L cc0_scoped17 ∗ sm (F := F) d L cc0_scoped21 ∗ sm (F := F) d L cc0_scoped22 ∗ sm (F := F) d L cc0_scoped23 ∗ sm (F := F) d L cc0_scoped24 ∗ sm (F := F) d L cc0_scoped28)
        ∗ ∃ W', ⌜∀ p ∈ W', p ∈ W ∨ p.2 = none⌝ ∗ owes (thr d L) O W') := by
  rw [bodyP_eq, wp_bind]
  iintro ⟨#Hlv, ⟨Hn, Hb, Ha, Hv, HdA, HdB, HdC, HdD⟩, ⟨⟨%f0, H0⟩, ⟨%f1, H1⟩, ⟨%f2, H2⟩, ⟨%f3, H3⟩, ⟨%f4, H4⟩⟩, ⟨Hq0, Hq1, Hq2, Hq3, Hq7, Hq8, Hq9, Hq10, Hq14, Hq15, Hq16, Hq17, Hq21, Hq22, Hq23, Hq24, Hq28⟩, HO⟩
  iapply (wp_wand_r Idealize.ShloMosaic.frame _ _)
  isplitl [Hn H0 Hq0 HO]
  · iapply (wp_fetch d L bn f0 qs O W hO)
    isplitr; · iexact Hlv
    isplitl [Hn]; · iexact Hn
    isplitl [H0]; · iexact H0
    isplitl [Hq0]; · iexact Hq0
    iexact HO
  iintro %v ⟨%hv, Hn, ⟨%f0', H0⟩, Hq0, HO⟩
  subst hv
  unfold bandsP
  rw [ext0, ext1, ext1', ext2, ext2', ext3, ext3', ext4]
  have hwl := widN_lt L
  ihave HC := (core_fold d L bt ac vl qs O W) $$ [Hb Ha Hv H1 H2 H3 H4 HO]
  · isplitl [Hb]; · iexact Hb
    isplitl [Ha]; · iexact Ha
    isplitl [Hv]; · iexact Hv
    isplitl [H1]; · iexists _; iexact H1
    isplitl [H2]; · iexists _; iexact H2
    isplitl [H3]; · iexists _; iexact H3
    isplitl [H4]; · iexists _; iexact H4
    iexact HO
  rw [wp_bind]
  iapply (wp_wand_r Idealize.ShloMosaic.frame _ _)
  isplitl [HC HdA Hq1 Hq2 Hq3 Hq7]
  · iapply (wp_bandStep d L bn bt ac vl hB fd cc0_scoped0 cc0_scoped1 cc0_scoped2 cc0_scoped3 cc0_scoped4 cc0_scoped5 cc0_scoped6 cc0_scoped7 (bnRow bn (widN L)) hwl (show 0 < 4 by decide) _
      (r0W_eq L 0) _ (k0_off54_inb L) (off54_rows L) qs O W hO)
    isplitr; · iexact Hlv
    isplitl [HC]; · iexact HC
    isplitl [HdA]; · iexact HdA
    isplitl [Hq1]; · iexact Hq1
    isplitl [Hq2]; · iexact Hq2
    isplitl [Hq3]; · iexact Hq3
    iexact Hq7
  iintro %a0 ⟨HC, HdA, Hq1, Hq2, Hq3, Hq7⟩
  rw [wp_bind]
  iapply (wp_wand_r Idealize.ShloMosaic.frame _ _)
  isplitl [HC HdB Hq8 Hq9 Hq10 Hq14]
  · iapply (wp_bandStep d L bn bt ac vl hB fd cc0_scoped0 cc0_scoped8 cc0_scoped9 cc0_scoped10 cc0_scoped11 cc0_scoped12 cc0_scoped13 cc0_scoped14 (bnRow bn (widN L)) hwl (show 1 < 4 by decide) _
      (r0W_eq L 1) _ (k0_off107_inb L) (off107_rows L) qs O W hO)
    isplitr; · iexact Hlv
    isplitl [HC]; · iexact HC
    isplitl [HdB]; · iexact HdB
    isplitl [Hq8]; · iexact Hq8
    isplitl [Hq9]; · iexact Hq9
    isplitl [Hq10]; · iexact Hq10
    iexact Hq14
  iintro %a1 ⟨HC, HdB, Hq8, Hq9, Hq10, Hq14⟩
  rw [wp_bind]
  iapply (wp_wand_r Idealize.ShloMosaic.frame _ _)
  isplitl [HC HdC Hq15 Hq16 Hq17 Hq21]
  · iapply (wp_bandStep d L bn bt ac vl hB fd cc0_scoped0 cc0_scoped15 cc0_scoped16 cc0_scoped17 cc0_scoped18 cc0_scoped19 cc0_scoped20 cc0_scoped21 (bnRow bn (widN L)) hwl (show 2 < 4 by decide) _
      (r0W_eq L 2) _ (k0_off160_inb L) (off160_rows L) qs O W hO)
    isplitr; · iexact Hlv
    isplitl [HC]; · iexact HC
    isplitl [HdC]; · iexact HdC
    isplitl [Hq15]; · iexact Hq15
    isplitl [Hq16]; · iexact Hq16
    isplitl [Hq17]; · iexact Hq17
    iexact Hq21
  iintro %a2 ⟨HC, HdC, Hq15, Hq16, Hq17, Hq21⟩
  iapply (wp_wand_r Idealize.ShloMosaic.frame _ _)
  isplitl [HC HdD Hq22 Hq23 Hq24 Hq28]
  · iapply (wp_bandStep d L bn bt ac vl hB fd cc0_scoped0 cc0_scoped22 cc0_scoped23 cc0_scoped24 cc0_scoped25 cc0_scoped26 cc0_scoped27 cc0_scoped28 (bnRow bn (widN L)) hwl (show 3 < 4 by decide) _
      (r0W_eq L 3) _ (k0_off213_inb L) (off213_rows L) qs O W hO)
    isplitr; · iexact Hlv
    isplitl [HC]; · iexact HC
    isplitl [HdD]; · iexact HdD
    isplitl [Hq22]; · iexact Hq22
    isplitl [Hq23]; · iexact Hq23
    isplitl [Hq24]; · iexact Hq24
    iexact Hq28
  iintro %a3 ⟨HC, HdD, Hq22, Hq23, Hq24, Hq28⟩
  unfold CoreSt
  icases HC with ⟨Hb, Ha, Hv, H1, H2, H3, H4, HO⟩
  isplitl [Hn Hb Ha Hv HdA HdB HdC HdD]
  · isplitl [Hn]; · iexact Hn
    isplitl [Hb]; · iexact Hb
    isplitl [Ha]; · iexact Ha
    isplitl [Hv]; · iexact Hv
    isplitl [HdA]; · iexact HdA
    isplitl [HdB]; · iexact HdB
    isplitl [HdC]; · iexact HdC
    iexact HdD
  isplitl [H0 H1 H2 H3 H4]
  · isplitl [H0]; · iexists _; iexact H0
    isplitl [H1]; · iexact H1
    isplitl [H2]; · iexact H2
    isplitl [H3]; · iexact H3
    iexact H4
  isplitr [HO]
  · isplitl [Hq0]; · iexact Hq0
    isplitl [Hq1]; · iexact Hq1
    isplitl [Hq2]; · iexact Hq2
    isplitl [Hq3]; · iexact Hq3
    isplitl [Hq7]; · iexact Hq7
    isplitl [Hq8]; · iexact Hq8
    isplitl [Hq9]; · iexact Hq9
    isplitl [Hq10]; · iexact Hq10
    isplitl [Hq14]; · iexact Hq14
    isplitl [Hq15]; · iexact Hq15
    isplitl [Hq16]; · iexact Hq16
    isplitl [Hq17]; · iexact Hq17
    isplitl [Hq21]; · iexact Hq21
    isplitl [Hq22]; · iexact Hq22
    isplitl [Hq23]; · iexact Hq23
    isplitl [Hq24]; · iexact Hq24
    iexact Hq28
  iexact HO

end Cert.Proof

end
-- ==== Proof.Launch.lean ====
/-
  What each tile is handed and hands back, and its obligation at the launch.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The subcore's own semaphores and buffers -/

/-- Members of a set, listed, come out of a separating conjunction over it one by one. -/
theorem bigSep_peel {I : Type} [DecidableEq I] (Φ : I → sProp 𝕄) : ∀ (l : List I) (S : Finset I), l.Nodup → (∀ a ∈ l, a ∈ S) →
    bigSep S Φ = l.foldr (fun a P => iprop(Φ a ∗ P)) (bigSep (l.foldl Finset.erase S) Φ)
  | [], _, _, _ => rfl
  | a :: l, S, hn, hm => by
    have hl := List.nodup_cons.mp hn
    refine (SparseCore.bigSep_erase' (hm a (List.mem_cons_self ..))).trans ?_
    exact congrArg (fun P => iprop(Φ a ∗ P)) (bigSep_peel Φ l (S.erase a) hl.2 fun b hb =>
      Finset.mem_erase.mpr ⟨fun e => hl.1 (e ▸ hb), hm b (List.mem_cons_of_mem _ hb)⟩)

/-- The semaphores the task's copies use. -/
def semL : List (SemLoc sig) := [.dma cc0_scoped0.sem, .dma cc0_scoped1.sem, .dma cc0_scoped2.sem, .dma cc0_scoped3.sem, .dma cc0_scoped7.sem, .dma cc0_scoped8.sem, .dma cc0_scoped9.sem, .dma cc0_scoped10.sem, .dma cc0_scoped14.sem, .dma cc0_scoped15.sem, .dma cc0_scoped16.sem, .dma cc0_scoped17.sem, .dma cc0_scoped21.sem, .dma cc0_scoped22.sem, .dma cc0_scoped23.sem, .dma cc0_scoped24.sem, .dma cc0_scoped28.sem]
/-- Its scratch buffers. -/
def refL : List (Ref sig .scVector) := [cc0_scratch0, cc0_scratch1, cc0_scratch2, cc0_scratch3, cc0_scratch4]

section Tile

variable (d : Dev nD) (L : grid0.Coords)

/-- The subcore's other semaphores. -/
def restSems : Finset (GSem nD τ sig) := (semL.map fun q => ((thr d L, q) : GSem nD τ sig)).foldl Finset.erase (ownCells (thr d L))
/-- Its other buffers. -/
def restRefs : Finset (DevRef τ sig) := (refL.map (Proc.scVector (cV L) (jV L)).devRef).foldl Finset.erase (ownRefs (τ := τ) (.scVector (cV L) (jV L)))

theorem ownSems0_V : (ownSems0 (thr d L) : sProp 𝕄)
    = semL.foldr (fun q P => iprop(semVal (thr d L, q) 0 ∗ P)) (bigSep (restSems d L) fun g => semVal g 0) := by
  unfold SparseCore.Cfg.ownSems0
  refine (bigSep_peel _ (semL.map fun q => ((thr d L, q) : GSem nD τ sig)) _ ?_ ?_).trans ?_
  · exact (show semL.Nodup by decide).map fun _ _ h => (Prod.mk.inj h).2
  · intro g hg
    obtain ⟨q, hq, rfl⟩ := List.mem_map.mp hg
    exact mem_ownCells.mpr ⟨rfl, (show ∀ q ∈ semL, q.isScoped .scVector = true by decide) q hq⟩
  · rw [List.foldr_map]; rfl

theorem ownBufs_V : (ownBufs (thr d L) : sProp 𝕄)
    = refL.foldr (fun b P => iprop((∃ f, (thr d L).loc b ↦{fullShare} f) ∗ P))
        (bigSep (restRefs L) fun b => iprop(∃ f, ((d, b) : Loc nD τ sig) ↦{fullShare} f)) := by
  unfold SparseCore.Cfg.ownBufs
  refine (bigSep_peel _ (refL.map (Proc.scVector (cV L) (jV L)).devRef) _ ?_ ?_).trans ?_
  · exact (show refL.Nodup by decide).map (Proc.devRef_injective _)
  · intro g hg
    obtain ⟨b, hb, rfl⟩ := List.mem_map.mp hg
    refine SparseCore.Cfg.mem_ownRefs_of_owner (p := Proc.scVector (cV L) (jV L)) ?_
    have : b = cc0_scratch0 ∨ b = cc0_scratch1 ∨ b = cc0_scratch2 ∨ b = cc0_scratch3 ∨ b = cc0_scratch4 := by simpa [refL] using hb
    rcases this with rfl | rfl | rfl | rfl | rfl <;> rfl
  · rw [List.foldr_map]; rfl

end Tile

/-! ## What a tile is handed -/

open Idealize.ShloMosaic.ShareLeaves (leaf pointsTo_leaves)

variable (bn : Dev nD → IVec S32x16 32) (bt ac : Dev nD → IVec S524288 32) (vl : Dev nD → FVec F S524288 .f32) (fd : Dev nD → Vec F S16384x768 .f32)

abbrev nLoc (d : Dev nD) : Loc nD τ sig := (SparseCore.T d).loc main_v22
abbrev bLoc (d : Dev nD) : Loc nD τ sig := (SparseCore.T d).loc main_arg0
abbrev aLoc (d : Dev nD) : Loc nD τ sig := (SparseCore.T d).loc main_arg1
abbrev vLoc (d : Dev nD) : Loc nD τ sig := (SparseCore.T d).loc main_arg2

/-- The share of the arrays every tile reads that tile `(c, s)` gets. -/
abbrev tq (c : Fin 2) (s : Fin 16) : PosShare TreeShare := leaf 4 (leaf 1 fullShare c) s

/-- Tile `(c, s)`'s part: a share of the bounds and of the three arrays, and its rows of the dense result with contents `f`. -/
abbrev tileIn (f : Dev nD → Vec F S16384x768 .f32) (d : Dev nD) (c : Fin 2) (s : Fin 16) : sProp 𝕄 :=
  iprop((nLoc d ↦{tq c s} bn d) ∗ (bLoc d ↦{tq c s} bt d) ∗ (aLoc d ↦{tq c s} ac d) ∗ (vLoc d ↦{tq c s} vl d)
    ∗ dLoc d ↦[tileSet (2 * s.val + c.val)]{fullShare} f d)

/-- What the tiles leave. -/
abbrev denseD (d : Dev nD) : Vec F S16384x768 .f32 := denseF (bn d) (bt d) (ac d) (vl d)

/-- The call hands a core its sixteen tiles' parts and gets them back, the dense result's rows written. -/
def P : (K (F := F)).Pay (nD := nD) (Val := Elt F) (Name := ℕ) (U := UU) where
  st := fun q d c => match q with
    | 0 => bigSep Finset.univ fun s : Fin 16 => tileIn bn bt ac vl fd d (Fin.cast nCore_zero c) s
  dn := fun q d c => match q with
    | 0 => bigSep Finset.univ fun s : Fin 16 => tileIn bn bt ac vl (denseD bn bt ac vl) d (Fin.cast nCore_zero c) s
  go := fun q d c s => match q with
    | 0 => tileIn bn bt ac vl fd d (Fin.cast nCore_zero c) (Fin.cast nSub_zero s)
  td := fun q d c s => match q with
    | 0 => tileIn bn bt ac vl (denseD bn bt ac vl) d (Fin.cast nCore_zero c) (Fin.cast nSub_zero s)
  x := fun _ _ => iprop(emp)

instance P_storable : (P (F := F) bn bt ac vl fd).IsStorable where
  st q d c := match q with
    | 0 => (inferInstance : BI.Storable (upEmb : UEmb _ 𝕄)
      (bigSep Finset.univ fun s : Fin 16 => tileIn bn bt ac vl fd d (Fin.cast nCore_zero c) s))
  dn q d c := match q with
    | 0 => (inferInstance : BI.Storable (upEmb : UEmb _ 𝕄)
      (bigSep Finset.univ fun s : Fin 16 => tileIn bn bt ac vl (denseD bn bt ac vl) d (Fin.cast nCore_zero c) s))
  go q d c s := match q with
    | 0 => (inferInstance : BI.Storable (upEmb : UEmb _ 𝕄) (tileIn bn bt ac vl fd d (Fin.cast nCore_zero c) (Fin.cast nSub_zero s)))
  td q d c s := match q with
    | 0 => (inferInstance : BI.Storable (upEmb : UEmb _ 𝕄)
      (tileIn bn bt ac vl (denseD bn bt ac vl) d (Fin.cast nCore_zero c) (Fin.cast nSub_zero s)))

theorem vecSplit : (K (F := F)).VecSplit' (P bn bt ac vl fd) 0 := by
  intro d c
  show (bigSep Finset.univ fun s : Fin 16 => tileIn bn bt ac vl fd d (Fin.cast nCore_zero c) s) ⊢ |={Set.univ}=> iprop(
      (bigSep Finset.univ fun s : Fin 16 => tileIn bn bt ac vl fd d (Fin.cast nCore_zero c) s)
      ∗ ((bigSep Finset.univ fun s : Fin 16 => tileIn bn bt ac vl (denseD bn bt ac vl) d (Fin.cast nCore_zero c) s)
          -∗ bigSep Finset.univ fun s : Fin 16 => tileIn bn bt ac vl (denseD bn bt ac vl) d (Fin.cast nCore_zero c) s))
  iintro H; imodintro
  isplitl [H]; · iexact H
  iintro H; iexact H

/-! ## The obligation -/

section Obl

variable (d : Dev nD) (L : grid0.Coords)

abbrev cL (L : grid0.Coords) : Fin 2 := ⟨(L 0).val, (L 0).isLt⟩
abbrev sL (L : grid0.Coords) : Fin 16 := ⟨(L 1).val, (L 1).isLt⟩

theorem tile_rows (f : Vec F S16384x768 .f32) :
    (dLoc d ↦[tileSet (2 * (sL L).val + (cL L).val)]{fullShare} f : sProp 𝕄)
      = iprop(ptRows (F := F) d L (k0_off54 L) (k0_off54_inb L) f ∗ ptRows (F := F) d L (k0_off107 L) (k0_off107_inb L) f
        ∗ ptRows (F := F) d L (k0_off160 L) (k0_off160_inb L) f ∗ ptRows (F := F) d L (k0_off213 L) (k0_off213_inb L) f) := by
  have key : ∀ (off : Fin 2 → ℕ) (hoff : ∀ a, off a + S128x768.size a ≤ S16384x768.size a) (b : ℕ), off = ![b * 128, 0] →
      (dLoc d ↦[bandSet b]{fullShare} f : sProp 𝕄) = ptRows (F := F) d L off hoff f := fun off hoff b h =>
    congrArg (fun S : Finset (Idx (dLoc d)) => (dLoc d ↦[S]{fullShare} f : sProp 𝕄)) (set_rowsM hoff h).symm
  rw [← key _ (k0_off54_inb L) _ (off54_rows L), ← key _ (k0_off107_inb L) _ (off107_rows L), ← key _ (k0_off160_inb L) _ (off160_rows L),
    ← key _ (k0_off213_inb L) _ (off213_rows L)]
  exact pointsTo_tile d (widN L) f

theorem tile_body (hF : (K (F := F)).Facts) (hB : TileOK (bn d) (bt d) (ac d)) (O : CellTallies nD τ sig (HIx 1)) (W : Waits sig (HIx 1)) (hO : ∀ g, O g none = 0) :
    iprop(levAts (K (F := F)).L (K (F := F)).lev ∗ emp ∗ tileIn bn bt ac vl fd d (cL L) (sL L)
        ∗ scopedBufs (thr d L) ∗ scopedSems0 (thr d L) ∗ owes (thr d L) O W)
      ⊢ wp frame (wpE (defs₀ (F := F)) 𝒱₀ (thr d L) none) Set.univ
          (cc0__sc_body (F := F) L bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28)
          fun _ => iprop(tileIn bn bt ac vl (denseD bn bt ac vl) d (cL L) (sL L)
            ∗ scopedBufs (thr d L) ∗ scopedSems0 (thr d L)
            ∗ ∃ W', ⌜∀ p ∈ W', p ∈ W ∨ p.2 = none⌝ ∗ owes (thr d L) O W') := by
  rw [body_eq, (K (F := F)).scopedBufs_V hF d (cV L) (jV L), SparseCore.Cfg.scopedSems0_V (Val := Elt F) d (cV L) (jV L), ownSems0_V, ownBufs_V]
  unfold tileIn
  rw [tile_rows, tile_rows]
  simp only [semL, refL, List.foldr_cons, List.foldr_nil]
  iintro ⟨#Hlv, -, ⟨Hn, Hb, Ha, Hv, Hd⟩, ⟨H0, H1, H2, H3, H4, Hbufs⟩, ⟨Hq0, Hq1, Hq2, Hq3, Hq7, Hq8, Hq9, Hq10, Hq14, Hq15, Hq16, Hq17, Hq21, Hq22, Hq23, Hq24, Hq28, Hsems⟩, HO⟩
  iapply (wp_wand_r Idealize.ShloMosaic.frame _ _)
  isplitr [Hbufs Hsems]
  · iapply (wp_tile d L (bn d) (bt d) (ac d) (vl d) hB (fd d) (tq (cL L) (sL L)) O W hO)
    isplitr; · iexact Hlv
    isplitl [Hn Hb Ha Hv Hd]
    · isplitl [Hn]; · iexact Hn
      isplitl [Hb]; · iexact Hb
      isplitl [Ha]; · iexact Ha
      isplitl [Hv]; · iexact Hv
      iexact Hd
    isplitl [H0 H1 H2 H3 H4]
    · isplitl [H0]; · iexact H0
      isplitl [H1]; · iexact H1
      isplitl [H2]; · iexact H2
      isplitl [H3]; · iexact H3
      iexact H4
    isplitr [HO]
    · isplitl [Hq0]; · iexact Hq0
      isplitl [Hq1]; · iexact Hq1
      isplitl [Hq2]; · iexact Hq2
      isplitl [Hq3]; · iexact Hq3
      isplitl [Hq7]; · iexact Hq7
      isplitl [Hq8]; · iexact Hq8
      isplitl [Hq9]; · iexact Hq9
      isplitl [Hq10]; · iexact Hq10
      isplitl [Hq14]; · iexact Hq14
      isplitl [Hq15]; · iexact Hq15
      isplitl [Hq16]; · iexact Hq16
      isplitl [Hq17]; · iexact Hq17
      isplitl [Hq21]; · iexact Hq21
      isplitl [Hq22]; · iexact Hq22
      isplitl [Hq23]; · iexact Hq23
      isplitl [Hq24]; · iexact Hq24
      iexact Hq28
    iexact HO
  iintro %a ⟨⟨Hn, Hb, Ha, Hv, Hd⟩, ⟨H0, H1, H2, H3, H4⟩, ⟨Hq0, Hq1, Hq2, Hq3, Hq7, Hq8, Hq9, Hq10, Hq14, Hq15, Hq16, Hq17, Hq21, Hq22, Hq23, Hq24, Hq28⟩, HO⟩
  isplitl [Hn Hb Ha Hv Hd]
  · isplitl [Hn]; · iexact Hn
    isplitl [Hb]; · iexact Hb
    isplitl [Ha]; · iexact Ha
    isplitl [Hv]; · iexact Hv
    iexact Hd
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitr [HO]
  · isplitl [Hq0]; · iexact Hq0
    isplitl [Hq1]; · iexact Hq1
    isplitl [Hq2]; · iexact Hq2
    isplitl [Hq3]; · iexact Hq3
    isplitl [Hq7]; · iexact Hq7
    isplitl [Hq8]; · iexact Hq8
    isplitl [Hq9]; · iexact Hq9
    isplitl [Hq10]; · iexact Hq10
    isplitl [Hq14]; · iexact Hq14
    isplitl [Hq15]; · iexact Hq15
    isplitl [Hq16]; · iexact Hq16
    isplitl [Hq17]; · iexact Hq17
    isplitl [Hq21]; · iexact Hq21
    isplitl [Hq22]; · iexact Hq22
    isplitl [Hq23]; · iexact Hq23
    isplitl [Hq24]; · iexact Hq24
    isplitl [Hq28]; · iexact Hq28
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (F := F) (coordsV c s) bnM (Memref.isWhole_whole _) btM (Memref.isWhole_whole _) acM (Memref.isWhole_whole _) vlM (Memref.isWhole_whole _) dnM (Memref.isWhole_whole _) s0M (Memref.isWhole_whole _) s1M (Memref.isWhole_whole _) s2M (Memref.isWhole_whole _) s3M (Memref.isWhole_whole _) s4M (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hB : ∀ d, TileOK (bn d) (bt d) (ac d)) : (K (F := F)).TileObl (D (F := F)) 𝒱 (P bn bt ac vl fd) v₀ 0 := by
  intro d c i O W hO _ _
  simp only [show (P (F := F) bn bt ac vl fd).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body bn bt ac vl fd d (coordsV ⟨_, hci.1⟩ ⟨_, hci.2⟩) hF (hB d) O W hO).trans (wp_mono frame _ _ fun _ => obl_post)

end Obl

/-! ## The call's operands are the tiles' parts -/

theorem deal (f : Dev nD → Vec F S16384x768 .f32) (d : Dev nD) :
    (bigSep Finset.univ fun c : Fin ((K (F := F)).nCore 0) => bigSep Finset.univ fun s : Fin 16 => tileIn bn bt ac vl f d (Fin.cast nCore_zero c) s)
      = iprop((nLoc d ↦{fullShare} bn d) ∗ (bLoc d ↦{fullShare} bt d) ∗ (aLoc d ↦{fullShare} ac d) ∗ (vLoc d ↦{fullShare} vl d)
          ∗ dLoc d ↦{fullShare} f d) := by
  have hsh : ∀ {ℓ : Loc nD τ sig} (g : Buf (Elt F) ℓ),
      (bigSep Finset.univ fun c : Fin 2 => bigSep Finset.univ fun s : Fin 16 => (ℓ ↦{tq c s} g : sProp 𝕄)) = ℓ ↦{fullShare} g := fun {ℓ} g =>
    ((pointsTo_leaves (Val := Elt F) Finset.univ g 1 fullShare).trans
      (bigSep_congr fun c _ => pointsTo_leaves (Val := Elt F) Finset.univ g 4 (leaf 1 fullShare c))).symm
  have hd : (bigSep Finset.univ fun c : Fin 2 => bigSep Finset.univ fun s : Fin 16 => (dLoc d ↦[tileSet (2 * s.val + c.val)]{fullShare} f d : sProp 𝕄))
      = dLoc d ↦{fullShare} f d := by
    rw [← bigSep_univ_prod (fun p : Fin 2 × Fin 16 => (dLoc d ↦[tileSet (2 * p.2.val + p.1.val)]{fullShare} f d : sProp 𝕄)),
      ← pointsTo_biUnion Finset.univ (ℓ := dLoc d) (fun p : Fin 2 × Fin 16 => tileSet (2 * p.2.val + p.1.val))
        (fun p _ p' _ h => disj_tile fun e => h (Prod.ext (Fin.ext (by omega)) (Fin.ext (by omega))))]
    refine congrArg (fun S : Finset (Idx (dLoc d)) => (dLoc d ↦[S]{fullShare} f d : sProp 𝕄)) ?_
    refine Finset.eq_univ_iff_forall.mpr fun i => ?_
    have hi : (i 0).val < 16384 := (i 0).isLt
    refine Finset.mem_biUnion.mpr ⟨(⟨(i 0).val / 512 % 2, by omega⟩, ⟨(i 0).val / 1024, by omega⟩), Finset.mem_univ _, mem_tileSet.mpr ?_⟩
    show (i 0).val / 512 = 2 * ((i 0).val / 1024) + (i 0).val / 512 % 2
    omega
  show (bigSep Finset.univ fun c : Fin 2 => bigSep Finset.univ fun s : Fin 16 => tileIn bn bt ac vl f d c s) = _
  simp only [bigSep_sep', hsh, hd]

end Cert.Proof

end
-- ==== Proof.Mm.lean ====
/-
  The matrix product on the TensorCore: the block body's run, the pipeline's proof data, the region.
-/
module

public import proofs.«01_k».proof.Proof.Launch
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligation)

/-- A buffer of the TensorCore held whole with contents `f`. -/
abbrev ptT (c : Dev nD) {sp : Space} {s : Shape} {e : EltTy} (M : Memref sig .tc sp s e) (f : Buf (Elt F) (M.view.loc (c : Thread nD τ))) : sProp 𝕄 :=
  M.view.loc (c : Thread nD τ) ↦{fullShare} f

theorem hz2 : (![0, 0] : Fin 2 → ℕ) = fun _ => 0 := funext fun a => by fin_cases a <;> rfl

/-- A block's body, run: the product of the two fetched blocks stored. -/
theorem wp_mm [∀ e, Nonempty (Elt F e)] (c : Dev nD) (i : grid1.Coords) (M1 : Memref sig .tc .vmem S1024x768 .f32) (h1 : M1.IsWhole) (M2 : Memref sig .tc .vmem S768x256 .f32) (h2 : M2.IsWhole)
    (M3 : Memref sig .tc .vmem S1024x256 .f32) (h3 : M3.IsWhole) (f1 : Buf (Elt F) (M1.view.loc (c : Thread nD τ))) (f2 : Buf (Elt F) (M2.view.loc (c : Thread nD τ)))
    (f3 : Buf (Elt F) (M3.view.loc (c : Thread nD τ))) (Q : PUnit → sProp 𝕄) :
    iprop(ptT c M1 f1 ∗ ptT c M2 f2 ∗ ptT c M3 f3
        ∗ (iprop(ptT c M1 f1 ∗ ptT c M2 f2 ∗ ∃ g, ⌜M3.view.read (Elt F) g = k1_pay1 (M1.view.read (Elt F) f1) (M2.view.read (Elt F) f2)⌝ ∗ ptT c M3 g) -∗ Q ⟨⟩))
      ⊢ wp frame (wpE (defs₀ (F := F)) Variants.none c none) Set.univ (cc1__mm_body (F := F) i M1 h1 M2 h2 M3 h3) Q := by
  simp only [cc1__mm_body_eq_skeleton]; unfold cc1__mm_body_skel
  iintro ⟨H1, H2, H3, Hk⟩
  sl_exec
  sl_step
  iapply Hk
  isplitl [H1]; · iexact H1
  isplitl [H2]; · iexact H2
  iexists _; isplitr
  swap; · iexact H3
  ipureintro
  rw [View.read_writes_eq_canon _ _ _ (fun y => ⟨_, List.mem_singleton_self _, by rw [Rect.mem_set_unit]; intro a; rw [congrFun hz2 a]; exact ⟨Nat.zero_le _, by rw [Nat.zero_add]; exact (y a).isLt⟩⟩)]
  rw [View.canon_unit_zero hz2]
  simp only [View.readAt_eq_ld, View.ld_unit_zero (S := S1024x768) hz2, View.ld_unit_zero (S := S768x256) hz2]

/-- Index `(1024 b + r, k)` of the dense array. -/
def rowIx (b : ℕ) (hb : b < 16) (j : S1024x768.Idx) : S16384x768.Idx := fun a => match a with
  | ⟨0, _⟩ => ⟨1024 * b + (j 0).val, by have : (j 0).val < 1024 := (j 0).isLt; show _ < 16384; omega⟩
  | ⟨1, _⟩ => ⟨(j 1).val, (j 1).isLt⟩

/-- Index `(i mod 1024, k)` of a block of the result. -/
def subIx (i : S16384x256.Idx) : S1024x256.Idx := fun a => match a with
  | ⟨0, _⟩ => ⟨(i 0).val % 1024, Nat.mod_lt _ (by decide)⟩
  | ⟨1, _⟩ => ⟨(i 1).val, (i 1).isLt⟩

/-- What the matrix product leaves: block by block of 1024 rows. -/
def mmF (x : Vec F S16384x768 .f32) (w : Vec F S768x256 .f32) : Vec F S16384x256 .f32 := fun i =>
  k1_pay1 (fun j => x (rowIx ((i 0).val / 1024) (by have : (i 0).val < 16384 := (i 0).isLt; omega) j)) w (subIx i)

/-! ## The proof data, at an entry valuation -/

variable (b : ℕ) (V : (c : Dev nD) → (b : Ref sig .tc) → Buf (Elt F) ((c : Thread nD τ).loc b))

/-- The rows fetched at a point, read from the dense array at entry. -/
abbrev blk0 (c : Dev nD) (t : Fin cfg1.N) : Vec F S1024x768 .f32 := ((cfg1.win 0).blk t).view.read (Elt F) (V c main_v23)
/-- The weights, as fetched. -/
abbrev blk1 (c : Dev nD) (t : Fin cfg1.N) : Vec F S768x256 .f32 := ((cfg1.win 1).blk t).view.read (Elt F) (V c main_arg4)

/-- The scoped buffers the pipeline does not stage. -/
abbrev Φc (c : Dev nD) : sProp 𝕄 := Pipeline.scopedRest (Ix := HIx 1) (Name := ℕ) (U := UU) (Lvl := ℕ) (Val := Elt F) spec1 c

/-- The waits recorded stay at levels up to `b`. -/
def recB (c : Dev nD) : Set (SemLoc sig × HIx 1) := {p | (K (F := F)).lev (SparseCore.T c, p.1) p.2 ≤ b}

/-- The pipeline's proof data: the arrays at entry; after the body each input's block as fetched, the output's the product. -/
def datM (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => k1_pay1 (blk0 V c t) (blk1 V c t)
  Φ _ := Φc c
  q _ := fullShare
  owed _ := 0
  recorded _ := recB (F := F) b c

theorem before0 (c : Dev nD) (t : Fin cfg1.N) (d) : (datM b V c).before 0 t d = blk0 V c t :=
  (Dat.before_in_eq_fetched (datM b V c) 0 rfl (fun _ => rfl) (fun _ _ _ => rfl) (fun _ => rfl) t d).trans rfl
theorem before1 (c : Dev nD) (t : Fin cfg1.N) (d) : (datM b V c).before 1 t d = blk1 V c t :=
  (Dat.before_in_eq_fetched (datM b V c) 1 rfl (fun _ => rfl) (fun _ _ _ => rfl) (fun _ => rfl) t d).trans rfl

/-- A whole memref read as `X`, opened. -/
theorem owns_of_whole (c : Dev nD) {sp : Space} {s : Shape} {e : EltTy} (M : Memref sig .tc sp s e) (h : M.IsWhole) (X : s.Idx → Elt F e) :
    (owns (c : Thread nD τ) M fullShare X : sProp 𝕄) = iprop(∃ f : Buf (Elt F) (M.view.loc (c : Thread nD τ)), ⌜M.view.read (Elt F) f = X⌝ ∗ ptT c M f) := by
  unfold owns; rw [h.set_eq_univ]

/-- The body's obligation at every point. -/
theorem body_obligation [∀ e, Nonempty (Elt F e)] (c : Dev nD) : BodyObligation (datM b V c) (defs₀ (F := F)) Variants.none none Set.univ := fun t => by
  rw [bigSep_W1, bigSep_W1]
  rw [show (datM b V c).Φ t.castSucc = Φc c from rfl, show (datM b V c).Φ t.succ = Φc c from rfl,
    show (datM b V c).owesAt none t.succ = (datM b V c).owesAt none t.castSucc from rfl]
  have e0 := fun X => owns_of_whole (F := F) c ((cfg1.win 0).stage (cfg1.slots t 0)) (hstage1_0 ((cfg1.slots t 0).cast nbuf1_0)) X
  have e1 := fun X => owns_of_whole (F := F) c ((cfg1.win 1).stage (cfg1.slots t 1)) (hstage1_1 ((cfg1.slots t 1).cast nbuf1_1)) X
  have e2 := fun X => owns_of_whole (F := F) c ((cfg1.win 2).stage (cfg1.slots t 2)) (hstage1_2 ((cfg1.slots t 2).cast nbuf1_2)) X
  iintro ⟨HΦ, Howes, ⟨%d0, H0⟩, ⟨%d1, H1⟩, ⟨%d2, H2⟩⟩
  ihave H0 := (Entails.of_eq (e0 ((datM b V c).before 0 t d0))) $$ H0
  ihave H1 := (Entails.of_eq (e1 ((datM b V c).before 1 t d1))) $$ H1
  ihave H2 := (Entails.of_eq (e2 ((datM b V c).before 2 t d2))) $$ H2
  icases H0 with ⟨%f0, %hf0, H0⟩
  icases H1 with ⟨%f1, %hf1, H1⟩
  icases H2 with ⟨%f2, -, H2⟩
  rw [before0] at hf0
  rw [before1] at hf1
  iapply (wp_mm c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) f0 f1 f2 _)
  isplitl [H0]; · iexact H0
  isplitl [H1]; · iexact H1
  isplitl [H2]; · iexact H2
  iintro ⟨H0, H1, %g, %hg, H2⟩
  isplitl [HΦ]; · iexact HΦ
  isplitl [Howes]; · iexact Howes
  isplitl [H0]; · iapply (Entails.of_eq (e0 _).symm); iexists f0; isplitr; swap; (· iexact H0); ipureintro; dsimp only [datM]; exact hf0
  isplitl [H1]; · iapply (Entails.of_eq (e1 _).symm); iexists f1; isplitr; swap; (· iexact H1); ipureintro; dsimp only [datM]; exact hf1
  iapply (Entails.of_eq (e2 _).symm); iexists g; isplitr; swap; (· iexact H2); ipureintro; dsimp only [datM]; rw [← hf0, ← hf1]; exact hg

/-! ## The result array -/

theorem ix1_0 (t : Fin cfg1.N) : win1_0.index t 0 = t.val ∧ win1_0.index t 1 = 0 := by
  rcases fin_N1 t with h | h | h | h | h | h | h | h | h | h | h | h | h | h | h | h <;> subst h <;> decide
theorem ix1_1 (t : Fin cfg1.N) : win1_1.index t 0 = 0 ∧ win1_1.index t 1 = 0 := by
  rcases fin_N1 t with h | h | h | h | h | h | h | h | h | h | h | h | h | h | h | h <;> subst h <;> decide
theorem ix1_2 (t : Fin cfg1.N) : win1_2.index t 0 = t.val ∧ win1_2.index t 1 = 0 := by
  rcases fin_N1 t with h | h | h | h | h | h | h | h | h | h | h | h | h | h | h | h <;> subst h <;> decide

theorem blk0_eq (c : Dev nD) (t : Fin cfg1.N) : blk0 V c t = fun j => (V c main_v23 : Vec F S16384x768 .f32) (rowIx t.val (lt_of_lt_of_eq t.isLt N_1) j) := by
  funext j
  unfold blk0
  rw [View.read_apply]
  show (V c main_v23 : Vec F S16384x768 .f32) _ = _
  congr 1
  funext a
  apply Fin.ext
  match a with
  | ⟨0, _⟩ => show win1_0.index t 0 * 1024 + 1 * (j 0).val = 1024 * t.val + (j 0).val; rw [(ix1_0 t).1]; omega
  | ⟨1, _⟩ => show win1_0.index t 1 * 768 + 1 * (j 1).val = (j 1).val; rw [(ix1_0 t).2]; omega

theorem blk1_eq (c : Dev nD) (t : Fin cfg1.N) : blk1 V c t = (V c main_arg4 : Vec F S768x256 .f32) := by
  funext j
  unfold blk1
  rw [View.read_apply]
  show (V c main_arg4 : Vec F S768x256 .f32) _ = _
  congr 1
  funext a
  apply Fin.ext
  match a with
  | ⟨0, _⟩ => show win1_1.index t 0 * 768 + 1 * (j 0).val = (j 0).val; rw [(ix1_1 t).1]; omega
  | ⟨1, _⟩ => show win1_1.index t 1 * 256 + 1 * (j 1).val = (j 1).val; rw [(ix1_1 t).2]; omega

/-- Every block written back is the product's. -/
theorem flushed_mm (c : Dev nD) (t : Fin cfg1.N) :
    (datM b V c).flushed 2 t = ((cfg1.win 2).blk t).view.read (Elt F) (mmF (V c main_v23) (V c main_arg4)) := by
  show (cfg1.win 2).cut (grid1.coords t) (k1_pay1 (blk0 V c t) (blk1 V c t)) = _
  rw [blk0_eq, blk1_eq]
  funext j
  rw [View.read_apply]
  have ht : t.val < 16 := lt_of_lt_of_eq t.isLt N_1
  have hj : (j 0).val < 1024 := (j 0).isLt
  have hi0 : ((((cfg1.win 2).blk t).view.emb j : S16384x256.Idx) 0).val = t.val * 1024 + 1 * (j 0).val := by
    show win1_2.index t 0 * 1024 + 1 * (j 0).val = _; rw [(ix1_2 t).1]
  have hi1 : ((((cfg1.win 2).blk t).view.emb j : S16384x256.Idx) 1).val = (j 1).val := by
    show win1_2.index t 1 * 256 + 1 * (j 1).val = _; rw [(ix1_2 t).2]; omega
  show k1_pay1 _ _ _ = mmF _ _ (((cfg1.win 2).blk t).view.emb j : S16384x256.Idx)
  generalize (((cfg1.win 2).blk t).view.emb j : S16384x256.Idx) = i at hi0 hi1
  unfold mmF
  have hq : t.val = (i 0).val / 1024 := by omega
  have hs : (cfg1.win 2).xinj (grid1.coords t) j = subIx i := by
    funext a; apply Fin.ext
    match a with
    | ⟨0, _⟩ => show (j 0).val = (i 0).val % 1024; omega
    | ⟨1, _⟩ => exact hi1.symm
  have hrow : ∀ (p q : ℕ) (hp : p < 16) (hq : q < 16), p = q → rowIx p hp = rowIx q hq := by intro p q _ _ h; subst h; rfl
  rw [hrow _ _ _ (by have : (i 0).val < 16384 := (i 0).isLt; omega) hq]
  exact congrArg _ hs

/-- The result array ends as the product. -/
theorem final_mm (c : Dev nD) : (datM b V c).arrAt 2 cfg1.N = mmF (V c main_v23) (V c main_arg4) :=
  (datM b V c).arrAt_eq_of_cover 2 (mmF (V c main_v23) (V c main_arg4)) (fun t _ => flushed_mm b V c t) fun i => by
    have h0 : ((i : S16384x256.Idx) 0).val < 16384 := ((i : S16384x256.Idx) 0).isLt
    have h1 : ((i : S16384x256.Idx) 1).val < 256 := ((i : S16384x256.Idx) 1).isLt
    have ht : ((i : S16384x256.Idx) 0).val / 1024 < cfg1.N := by rw [show cfg1.N = 16 from N_1]; omega
    refine ⟨⟨_, ht⟩, flush1_2 _, ?_⟩
    show i ∈ ((View.whole main_v24).slice (win1_2.rect ⟨_, ht⟩)).set
    rw [View.set_slice_whole, Rect.mem_set_unit]
    have hx := ix1_2 ⟨_, ht⟩
    intro a
    match a with
    | ⟨0, _⟩ =>
      show win1_2.index ⟨_, ht⟩ 0 * 1024 ≤ _ ∧ _ < win1_2.index ⟨_, ht⟩ 0 * 1024 + 1024
      rw [hx.1]; show _ / 1024 * 1024 ≤ ((i : S16384x256.Idx) 0).val ∧ ((i : S16384x256.Idx) 0).val < _ / 1024 * 1024 + 1024; omega
    | ⟨1, _⟩ =>
      show win1_2.index ⟨_, ht⟩ 1 * 256 ≤ _ ∧ _ < win1_2.index ⟨_, ht⟩ 1 * 256 + 256
      rw [hx.2]; show 0 * 256 ≤ ((i : S16384x256.Idx) 1).val ∧ ((i : S16384x256.Idx) 1).val < 0 * 256 + 256; omega

/-! ## The region -/

variable (adm : (p : Fin 1) → (pcfgs (F := F) p).Adm)

/-- The proof data of the one pipeline. -/
def pdats : (p : Fin 1) → (c : Dev nD) → Dat τ (Elt F) (HIx 1) ℕ UU ℕ (Pipeline.pin (pcfgs (F := F)) adm p) c
  | ⟨0, _⟩ => fun c => datM b V c

-- an entailment over `pin pcs a p` unifies only when plain definitions in a metavariable's type may be unfolded
set_option backward.isDefEq.respectTransparency.types false in
/-- The pipeline as a region: the unscoped buffers at `V` to those at `Vp`, which has the product in the result and is `V` elsewhere. -/
def regM [∀ e, Nonempty (Elt F e)] (Vp : (c : Dev nD) → (b : Ref sig .tc) → Buf (Elt F) ((c : Thread nD τ).loc b)) (R : Dev nD → sProp 𝕄)
    (hout : ∀ c, Vp c main_v24 = mmF (V c main_v23) (V c main_arg4)) (hne : ∀ c (r : Ref sig .tc), r ≠ main_v24 → Vp c r = V c r) :
    Pipeline.RegionSeg (pcfgs (F := F)) adm (pdats b V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation b V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (SparseCore.T c) W b⌝ ∗ owes (c : Thread nD τ) (0 : CellTallies nD τ sig (HIx 1)) W)
  post c := iprop(unscopedBufs c (Vp c) ∗ R c ∗ ∃ W, ⌜(K (F := F)).WBelow (SparseCore.T c) W b⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats b V adm) launch1.win launch1.arr_whole c
      ((pdats b V adm 0 c).share_full fun _ => rfl) (V c) fun _ => rfl
    iintro ⟨⟨Hub, HR, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats b V adm 0 c).Φ 0 = Φc c from rfl]
    iintro ⟨-, -, Hr⟩; iexact Hr
  hout c := by
    rw [Pipeline.ownSems0_none, show (pdats b V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats b V adm) ((pdats b V adm 0 c).share_full fun _ => rfl) (V c) (Vp c) ((pdats b V adm 0 c).arrAt · cfg1.N)
      (fun w => by
        fin_cases w
        · exact ((pdats b V adm 0 c).arrAt_in 0 rfl _).trans (hne c main_v23 (by decide)).symm
        · exact ((pdats b V adm 0 c).arrAt_in 1 rfl _).trans (hne c main_arg4 (by decide)).symm
        · exact (final_mm b V c).trans (hout c).symm)
      (fun r hr => hne c r fun h => hr (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, h⟩
      · exact h
      · subst h; exact Nat.zero_le _
    · iexact HO

end Cert.Proof

end
-- ==== Proof.Ops.lean ====
/-
  The host's operations before the SparseCore call: the line, what it writes, what it leaves in the table of bounds.
-/
module

public import proofs.«01_k».proof.Proof.Mm
public import Idealize.ShloMosaic.Lib.StableHlo.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo
open Idealize.ShloMosaic.TcCoe

/-- The line of host operations before the SparseCore call. -/
abbrev hostOps : List (HloOp τ sig (Elt F)) :=
  [ nullary main_v0 (iotaInDim S129 32 0),
    nullary main_c (constantI S_ 32 128#32),
    unary main_c main_v1 (broadcastInDim S129 ![] bcast_S_S129 : (⟨S_, .i32⟩ : BufTy).Contents (Elt F) → (⟨S129, .i32⟩ : BufTy).Contents (Elt F)),
    binary main_v1 main_v0 main_v2 (muli : (⟨S129, .i32⟩ : BufTy).Contents (Elt F) → (⟨S129, .i32⟩ : BufTy).Contents (Elt F) → (⟨S129, .i32⟩ : BufTy).Contents (Elt F)),
    nullary main_c_0 (constantI S_ 32 0#32),
    unary main_c_0 main_v3 (broadcastInDim S129 ![] bcast_S_S129 : (⟨S_, .i32⟩ : BufTy).Contents (Elt F) → (⟨S129, .i32⟩ : BufTy).Contents (Elt F)),
    binary main_v3 main_v2 main_v4 (addi : (⟨S129, .i32⟩ : BufTy).Contents (Elt F) → (⟨S129, .i32⟩ : BufTy).Contents (Elt F) → (⟨S129, .i32⟩ : BufTy).Contents (Elt F)),
    TRef.unary (TRef.of (T := ⟨S129, .i32⟩) main_v4) (TRef.of (T := ⟨S1x129, .i32⟩) main_call0_call0_v0) (broadcastInDim S1x129 ![1] bcast_S129_S1x129_1),
    TRef.unary (TRef.of (T := ⟨S524288, .i32⟩) main_arg0) (TRef.of (T := ⟨S524288x1, .i32⟩) main_call0_call0_v1) (broadcastInDim S524288x1 ![0] bcast_S524288_S524288x1_0),
    TRef.unary (TRef.of (T := ⟨S524288x1, .i32⟩) main_call0_call0_v1) (TRef.of (T := ⟨S524288x129, .i32⟩) main_call0_call0_v2) (broadcastInDim S524288x129 ![0, 1] bcast_S524288x1_S524288x129_0_1),
    TRef.unary (TRef.of (T := ⟨S1x129, .i32⟩) main_call0_call0_v0) (TRef.of (T := ⟨S524288x129, .i32⟩) main_call0_call0_v3) (broadcastInDim S524288x129 ![0, 1] bcast_S1x129_S524288x129_0_1),
    TRef.binary (TRef.of (T := ⟨S524288x129, .i32⟩) main_call0_call0_v2) (TRef.of (T := ⟨S524288x129, .i32⟩) main_call0_call0_v3) (TRef.of (T := ⟨S524288x129, .i1⟩) main_call0_call0_v4) (cmpi .slt),
    TRef.unary (TRef.of (T := ⟨S524288x129, .i1⟩) main_call0_call0_v4) (TRef.of (T := ⟨S524288x129, .i32⟩) main_call0_call0_v5) (extui 32 · natLt_1_32),
    TRef.nullary (TRef.of (T := ⟨S_, .i32⟩) main_call0_call0_c) (constantI S_ 32 0#32),
    TRef.binary (TRef.of (T := ⟨S524288x129, .i32⟩) main_call0_call0_v5) (TRef.of (T := ⟨S_, .i32⟩) main_call0_call0_c) (TRef.of (T := ⟨S129, .i32⟩) main_v5) (fun x v => Host.reduce IntOp.addi x v reducesTo_S524288x129_S129_d0 h_S_),
    nullary main_v6 (iotaInDim S32 32 0),
    unary main_v6 main_v7 (broadcastInDim S32x1 ![0] bcast_S32_S32x1_0 : (⟨S32, .i32⟩ : BufTy).Contents (Elt F) → (⟨S32x1, .i32⟩ : BufTy).Contents (Elt F)),
    nullary main_c_1 (constantI S_ 32 4#32),
    unary main_c_1 main_v8 (broadcastInDim S32x1 ![] bcast_S_S32x1 : (⟨S_, .i32⟩ : BufTy).Contents (Elt F) → (⟨S32x1, .i32⟩ : BufTy).Contents (Elt F)),
    binary main_v8 main_v7 main_v9 (muli : (⟨S32x1, .i32⟩ : BufTy).Contents (Elt F) → (⟨S32x1, .i32⟩ : BufTy).Contents (Elt F) → (⟨S32x1, .i32⟩ : BufTy).Contents (Elt F)),
    nullary main_v10 (iotaInDim S16 32 0),
    unary main_v10 main_v11 (broadcastInDim S1x16 ![1] bcast_S16_S1x16_1 : (⟨S16, .i32⟩ : BufTy).Contents (Elt F) → (⟨S1x16, .i32⟩ : BufTy).Contents (Elt F)),
    unary main_v9 main_v12 (broadcastInDim S32x16 ![0, 1] bcast_S32x1_S32x16_0_1 : (⟨S32x1, .i32⟩ : BufTy).Contents (Elt F) → (⟨S32x16, .i32⟩ : BufTy).Contents (Elt F)),
    unary main_v11 main_v13 (broadcastInDim S32x16 ![0, 1] bcast_S1x16_S32x16_0_1 : (⟨S1x16, .i32⟩ : BufTy).Contents (Elt F) → (⟨S32x16, .i32⟩ : BufTy).Contents (Elt F)),
    binary main_v12 main_v13 main_v14 (addi : (⟨S32x16, .i32⟩ : BufTy).Contents (Elt F) → (⟨S32x16, .i32⟩ : BufTy).Contents (Elt F) → (⟨S32x16, .i32⟩ : BufTy).Contents (Elt F)),
    nullary main_c_2 (constantI S_ 32 0#32),
    nullary main_c_3 (constantI S_ 32 128#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S32x16, .i32⟩) main_call1_v1) (broadcastInDim S32x16 ![] bcast_S_S32x16),
    TRef.binary (TRef.of (T := ⟨S32x16, .i32⟩) main_call1_v1) (TRef.of (T := ⟨S32x16, .i32⟩) main_v14) (TRef.of (T := ⟨S32x16, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S32x16, .i32⟩) main_call1_v4) (broadcastInDim S32x16 ![] bcast_S_S32x16),
    TRef.binary (TRef.of (T := ⟨S32x16, .i32⟩) main_call1_v4) (TRef.of (T := ⟨S32x16, .i32⟩) main_call1_v2) (TRef.of (T := ⟨S32x16, .i32⟩) main_v15) minsi,
    nullary main_c_4 (constantI S_ 32 0#32),
    unary main_c_4 main_v16 (broadcastInDim S32x16 ![] bcast_S_S32x16 : (⟨S_, .i32⟩ : BufTy).Contents (Elt F) → (⟨S32x16, .i32⟩ : BufTy).Contents (Elt F)),
    binary main_v15 main_v16 main_v17 (cmpi .slt : (⟨S32x16, .i32⟩ : BufTy).Contents (Elt F) → (⟨S32x16, .i32⟩ : BufTy).Contents (Elt F) → (⟨S32x16, .i1⟩ : BufTy).Contents (Elt F)),
    nullary main_c_5 (constantI S_ 32 129#32),
    unary main_c_5 main_v18 (broadcastInDim S32x16 ![] bcast_S_S32x16 : (⟨S_, .i32⟩ : BufTy).Contents (Elt F) → (⟨S32x16, .i32⟩ : BufTy).Contents (Elt F)),
    binary main_v15 main_v18 main_v19 (addi : (⟨S32x16, .i32⟩ : BufTy).Contents (Elt F) → (⟨S32x16, .i32⟩ : BufTy).Contents (Elt F) → (⟨S32x16, .i32⟩ : BufTy).Contents (Elt F)),
    ternary main_v17 main_v19 main_v15 main_v20 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v20 main_v21 (broadcastInDim S32x16x1 ![0, 1] bcast_S32x16_S32x16x1_0_1 : (⟨S32x16, .i32⟩ : BufTy).Contents (Elt F) → (⟨S32x16x1, .i32⟩ : BufTy).Contents (Elt F)),
    binary main_v5 main_v21 main_v22 ((fun x i => Host.gather gather_S129_S32x16x1_S32x16_n_0_n_n_0_2_1 x i) : (⟨S129, .i32⟩ : BufTy).Contents (Elt F) → (⟨S32x16x1, .i32⟩ : BufTy).Contents (Elt F) → (⟨S32x16, .i32⟩ : BufTy).Contents (Elt F)) ]

set_option maxRecDepth 8192 in
theorem main_split (d : Dev nD) : main (F := F) d
    = seq hostOps >>= fun _ => sc.run d 0 >>= fun _ => Prog.lift (.customCall (SparseCore.inner (Pipeline.entry 0)) ()) >>= fun _ => pure ⟨⟩ := rfl

/-- The TensorCore's references that are not scoped. -/
def ucRefs : Finset (DevRef τ sig) := (tcRefs τ sig).filter fun b => ¬ b.isScoped

set_option maxRecDepth 8192 in
theorem ops_tc : (hostOps : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- What the line writes. -/
abbrev hostW : List (Ref sig .tc) := [main_v0, main_c, main_v1, main_v2, main_c_0, main_v3, main_v4, main_call0_call0_v0, main_call0_call0_v1, main_call0_call0_v2, main_call0_call0_v3, main_call0_call0_v4, main_call0_call0_v5, main_call0_call0_c, main_v5, main_v6, main_v7, main_c_1, main_v8, main_v9, main_v10, main_v11, main_v12, main_v13, main_v14, main_c_2, main_c_3, main_call1_v0, main_call1_v1, main_call1_v2, main_call1_v3, main_call1_v4, main_v15, main_c_4, main_v16, main_v17, main_c_5, main_v18, main_v19, main_v20, main_v21, main_v22]

theorem ops_writes : (hostOps : List (HloOp τ sig (Elt F))).map HloOp.writes = hostW.map fun w => {Proc.devRef (τ := τ) .tc w} := rfl

theorem ops_fresh : ∀ op ∈ (hostOps : List (HloOp τ sig (Elt F))), op.fresh = ∅ := by
  rw [← List.forall_iff_forall_mem]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_uc : ∀ op ∈ (hostOps : List (HloOp τ sig (Elt F))), op.bufs ⊆ ucRefs := fun op h b hb =>
  Finset.mem_filter.mpr ⟨(List.forall_iff_forall_mem.mp ops_tc) op h hb, by rw [op.no_scoped b hb]; exact Bool.false_ne_true⟩

/-- The unscoped buffers at a valuation are that set held at it. -/
theorem unscopedBufs_held (c : Dev nD) (W : Valuation τ sig (Elt F)) :
    (unscopedBufs c (fun b => W b) : sProp 𝕄) = held (c : Thread nD τ) ucRefs W := by
  unfold unscopedBufs held ucRefs tcRefs
  rw [Finset.filter_map, bigSep_map]
  rfl

end Cert.Proof

end
-- ==== Proof.Main.lean ====
/-
  The program's run: the host's operations, the SparseCore call, the TensorCore's matrix product.
-/
module

public import proofs.«01_k».proof.Proof.Ops
public import Idealize.ShloMosaic.Lib.StableHlo.RunRead
public import Idealize.ShloMosaic.Lib.SparseCore.Quiescent

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo
open Idealize.ShloMosaic.TcCoe

/-! ## The three rounds libraries' places in the certificate's component -/

def EH : Emb UH 𝕄 :=
  (Emb.inl : Emb UH UU).trans (uEmb (nD := nD) (sig := sig) (Ix := HIx 1) (Val := Elt F) (Name := ℕ) (U := UU) (Lvl := ℕ)).toEmb
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

theorem ownU_parts (a : UH) (b : UP) : (ownU ((a, b, 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-! ## The launch memory's contents along the run -/

/-- The pipeline has no prefetched tables. -/
abbrev adm (p : Fin 1) : (pcfgs (F := F) p).Adm := (cfgs p).toPCfg_adm

theorem pin_inj : Function.Injective (Pipeline.cellOf (nD := nD) (τ := τ) (Pipeline.pin (pcfgs (F := F)) adm)) := cellOf_inj

variable (m : (ℓ : Loc nD τ sig) → Buf (Elt F) ℓ) (ρ : Dev nD → PrngReg)

abbrev ref (b : Ref sig .tc) : DevRef τ sig := Proc.devRef (τ := τ) .tc b

/-- At launch. -/
def V0 (d : Dev nD) : Valuation τ sig (Elt F) := fun b => m (d, b)
/-- After the host's operations. -/
abbrev V1 (d : Dev nD) : Valuation τ sig (Elt F) := after hostOps (V0 m d)

abbrev bnV (d : Dev nD) : IVec S32x16 32 := V1 m d (ref main_v22)
abbrev btV (d : Dev nD) : IVec S524288 32 := V1 m d (ref main_arg0)
abbrev acV (d : Dev nD) : IVec S524288 32 := V1 m d (ref main_arg1)
abbrev vlV (d : Dev nD) : FVec F S524288 .f32 := V1 m d (ref main_arg2)
abbrev fdV (d : Dev nD) : Vec F S16384x768 .f32 := V1 m d (ref main_v23)
abbrev wtV (d : Dev nD) : Vec F S768x256 .f32 := V1 m d (ref main_arg4)

/-- The dense result the tiles leave. -/
abbrev dnV (d : Dev nD) : Vec F S16384x768 .f32 := denseD (bnV m) (btV m) (acV m) (vlV m) d

/-- After the SparseCore call. -/
def V2 (d : Dev nD) : Valuation τ sig (Elt F) := Function.update (V1 m d) (ref main_v23) (dnV m d)
/-- After the matrix product. -/
def V3 (d : Dev nD) : Valuation τ sig (Elt F) := Function.update (V2 m d) (ref main_v24) (mmF (dnV m d) (wtV m d))

theorem V1_arg (d : Dev nD) (b : Ref sig .tc) (h : b ∉ hostW) : V1 m d (ref b) = m ((d : Thread nD τ).loc b) :=
  after_unwritten hostW ops_writes h (V0 m d)

theorem ref_ne {a b : Ref sig .tc} (h : a ≠ b) : ref a ≠ ref b := fun e => h (Proc.devRef_injective _ e)

theorem V2_ne (d : Dev nD) {b : Ref sig .tc} (h : b ≠ main_v23) : V2 m d (ref b) = V1 m d (ref b) := Function.update_of_ne (ref_ne h) _ _
theorem V2_dn (d : Dev nD) : V2 m d (ref main_v23) = dnV m d := Function.update_self _ _ _
theorem V3_ne (d : Dev nD) {b : Ref sig .tc} (h : b ≠ main_v24) : V3 m d (ref b) = V2 m d (ref b) := Function.update_of_ne (ref_ne h) _ _
theorem V3_out (d : Dev nD) : V3 m d (ref main_v24) = mmF (dnV m d) (wtV m d) := Function.update_self _ _ _

/-! ## The five arrays of the SparseCore call, out of the buffers the line holds -/

def callL : List (DevRef τ sig) := [ref main_v22, ref main_arg0, ref main_arg1, ref main_arg2, ref main_v23]
def restL : Finset (DevRef τ sig) := callL.foldl Finset.erase ucRefs

theorem ref_uc (b : Ref sig .tc) (h : b.isScoped = false) : ref b ∈ ucRefs :=
  Finset.mem_filter.mpr ⟨devRef_mem_tcRefs b, by rw [show (ref b).isScoped = b.isScoped from rfl, h]; exact Bool.false_ne_true⟩

theorem held_call (d : Dev nD) (W : Valuation τ sig (Elt F)) :
    (held (d : Thread nD τ) ucRefs W : sProp 𝕄)
      = iprop((nLoc d ↦{fullShare} W (ref main_v22)) ∗ (bLoc d ↦{fullShare} W (ref main_arg0)) ∗ (aLoc d ↦{fullShare} W (ref main_arg1))
        ∗ (vLoc d ↦{fullShare} W (ref main_arg2)) ∗ (dLoc d ↦{fullShare} W (ref main_v23)) ∗ held (d : Thread nD τ) restL W) :=
  bigSep_peel _ callL ucRefs (by decide) (by
    intro a ha
    simp only [callL, List.mem_cons, List.not_mem_nil, or_false] at ha
    rcases ha with rfl | rfl | rfl | rfl | rfl <;> exact ref_uc _ rfl)

theorem held_rest (d : Dev nD) : (held (d : Thread nD τ) restL (V1 m d) : sProp 𝕄) = held (d : Thread nD τ) restL (V2 m d) :=
  held_congr _ fun b hb => by
    refine (Function.update_of_ne ?_ _ _).symm
    rintro rfl
    simp only [restL, callL, List.foldl_cons, List.foldl_nil, Finset.mem_erase, ne_eq, not_true_eq_false, false_and] at hb

/-! ## The launch element of the certificate's ghost state -/

def u₀ : UU :=
  (initOf (K (F := F)).hsCells (K (F := F)).hsToks, initOf (Pipeline.cells (Pipeline.pin (pcfgs (F := F)) adm) pin_inj)
    (Pipeline.launchToks (Pipeline.pin (pcfgs (F := F)) adm) pin_inj), 1)

/-- What the TensorCore of `d` starts with: its pipeline's cells and tokens. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_emp {I : Type} (s : Finset I) : (bigSep s fun _ => iprop(emp)) = (iprop(emp) : sProp 𝕄) := bigSep_emp_const s

abbrev PP : (K (F := F)).Pay (nD := nD) (Val := Elt F) (Name := ℕ) (U := UU) := P (bnV m) (btV m) (acV m) (vlV m) (fdV m)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_parts _ _) $$ Hu
  icases H with ⟨HH, HP⟩
  ihave HP := (Pipeline.fund_ghost (Pipeline.pin (pcfgs (F := F)) adm) EP pin_inj) $$ HP
  imod HP
  icases HP with ⟨Hc, Ht⟩
  imodintro
  isplitl [HH]; · iexact HH
  isplitl [Hc Ht]
  · unfold G
    rw [bigSep_sep']
    isplitl [Hc] <;> iassumption
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_emp]
  iempintro

/-! ## @main on the TensorCore -/

/-- The level the TensorCore's recorded waits stay below once the call is over. -/
abbrev lvl1 : ℕ := 8 * SparseCore.Cfg.Blocks.fst (Q := 1) (N := 1) 1

/-- What the TensorCore holds after the call, besides the waits it has recorded. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_one (d : Dev nD) : ((K (F := F)).tcSt EH d 1 : sProp 𝕄)
    = iprop((∃ W, ⌜(K (F := F)).WBelow (SparseCore.T d) W lvl1⌝ ∗ owes (d : Thread nD τ) (0 : CellTallies nD τ sig (HIx 1)) W) ∗ tcRest d) := by
  unfold SparseCore.Cfg.tcSt
  rw [(K (F := F)).Otc_end d (le_refl 1)]
  rfl

/-- The region of the matrix product, from the buffers as the SparseCore call leaves them. -/
abbrev reg [∀ e, Nonempty (Elt F e)] :=
  regM (F := F) lvl1 (fun d b => V2 m d (ref b)) adm (fun d b => V3 m d (ref b)) (fun d => tcRest d)
    (fun d => by
      show V3 m d (ref main_v24) = mmF (V2 m d (ref main_v23)) (V2 m d (ref main_arg4))
      rw [V3_out, V2_dn, V2_ne m d (by decide)])
    (fun d r h => V3_ne m d h)

abbrev FIN (d : Dev nD) : sProp 𝕄 := held (d : Thread nD τ) ucRefs (V3 m d)

theorem st_eq (d : Dev nD) : (bigSep Finset.univ fun c : Fin ((K (F := F)).nCore 0) => (PP m).st 0 d c)
    = iprop((nLoc d ↦{fullShare} bnV m d) ∗ (bLoc d ↦{fullShare} btV m d) ∗ (aLoc d ↦{fullShare} acV m d) ∗ (vLoc d ↦{fullShare} vlV m d)
        ∗ dLoc d ↦{fullShare} fdV m d) :=
  deal (bnV m) (btV m) (acV m) (vlV m) (fdV m) d

theorem dn_eq (d : Dev nD) : (bigSep Finset.univ fun c : Fin ((K (F := F)).nCore 0) => (PP m).dn 0 d c)
    = iprop((nLoc d ↦{fullShare} bnV m d) ∗ (bLoc d ↦{fullShare} btV m d) ∗ (aLoc d ↦{fullShare} acV m d) ∗ (vLoc d ↦{fullShare} vlV m d)
        ∗ dLoc d ↦{fullShare} dnV m d) :=
  deal (bnV m) (btV m) (acV m) (vlV m) (dnV m) d

/-- The buffers before the call: its operands and the rest. -/
theorem held_before (d : Dev nD) : (held (d : Thread nD τ) ucRefs (V1 m d) : sProp 𝕄)
    ⊢ iprop((bigSep Finset.univ fun c : Fin ((K (F := F)).nCore 0) => (PP m).st 0 d c) ∗ held (d : Thread nD τ) restL (V1 m d)) := by
  rw [st_eq, held_call]
  iintro ⟨H1, H2, H3, H4, H5, Hr⟩
  isplitr [Hr]
  · isplitl [H1]; · iexact H1
    isplitl [H2]; · iexact H2
    isplitl [H3]; · iexact H3
    isplitl [H4] <;> iassumption
  · iexact Hr

/-- The buffers after it. -/
theorem held_after (d : Dev nD) :
    iprop((bigSep Finset.univ fun c : Fin ((K (F := F)).nCore 0) => (PP m).dn 0 d c) ∗ held (d : Thread nD τ) restL (V1 m d))
      ⊢ (held (d : Thread nD τ) ucRefs (V2 m d) : sProp 𝕄) := by
  rw [dn_eq, held_call, held_rest, V2_dn, V2_ne m d (b := main_v22) (by decide), V2_ne m d (b := main_arg0) (by decide),
    V2_ne m d (b := main_arg1) (by decide), V2_ne m d (b := main_arg2) (by decide)]
  iintro ⟨⟨H1, H2, H3, H4, H5⟩, Hr⟩
  isplitl [H1]; · iexact H1
  isplitl [H2]; · iexact H2
  isplitl [H3]; · iexact H3
  isplitl [H4]; · iexact H4
  isplitl [H5] <;> iassumption

theorem reg_pre [∀ e, Nonempty (Elt F e)] (d : Dev nD) : (reg m).pre d
    = iprop(held (d : Thread nD τ) ucRefs (V2 m d) ∗ tcRest d
      ∗ ∃ W, ⌜(K (F := F)).WBelow (SparseCore.T d) W lvl1⌝ ∗ owes (d : Thread nD τ) (0 : CellTallies nD τ sig (HIx 1)) W) := by
  rw [← unscopedBufs_held]; rfl

theorem reg_post [∀ e, Nonempty (Elt F e)] (d : Dev nD) : (reg m).post d
    = iprop(held (d : Thread nD τ) ucRefs (V3 m d) ∗ tcRest d
      ∗ ∃ W, ⌜(K (F := F)).WBelow (SparseCore.T d) W lvl1⌝ ∗ owes (d : Thread nD τ) (0 : CellTallies nD τ sig (HIx 1)) W) := by
  rw [← unscopedBufs_held]; rfl

theorem region_in [∀ e, Nonempty (Elt F e)] (κ : GSem nD τ sig → ℕ) (d : Dev nD) :
    (iprop((K (F := F)).ctx EH (PP m) κ ∗ boundary (d : Thread nD τ) ∗ (K (F := F)).tcSt EH d 1 ∗ held (d : Thread nD τ) ucRefs (V2 m d) ∗ G d) : sProp 𝕄)
      ⊢ iprop((iprop(boundary (d : Thread nD τ) ∗ (reg m).post d)
          -∗ wp frame (wpE (D (F := F)) 𝒱 (d : Thread nD τ) none) Set.univ (Prog.ret PUnit.unit) fun _ => iprop(boundary (d : Thread nD τ) ∗ (K (F := F)).tcSt EH d 1 ∗ held (d : Thread nD τ) ucRefs (V3 m d)))
        ∗ boundary (d : Thread nD τ) ∗ (reg m).pre d ∗ levAts (K (F := F)).L (K (F := F)).lev
        ∗ Pipeline.cellsGhost (Pipeline.pin (pcfgs (F := F)) adm) EP 0 d ∗ Pipeline.toksInit (Pipeline.pin (pcfgs (F := F)) adm) EP 0 d) := by
  rw [tcSt_one, reg_pre, reg_post]
  iintro ⟨#Hctx, Hb, ⟨HO, Hr⟩, Hh, Hg⟩
  unfold G
  icases Hg with ⟨Hc, Ht⟩
  isplitr [Hb HO Hr Hh Hc Ht]
  · iintro ⟨Hb, Hh, Hr, HO⟩
    rw [wp_ret]; imodintro
    isplitl [Hb]; · iexact Hb
    isplitl [HO Hr]
    · isplitl [HO] <;> iassumption
    · iexact Hh
  isplitl [Hb]; · iexact Hb
  isplitl [HO Hr Hh]
  · isplitl [Hh]; · iexact Hh
    isplitl [Hr] <;> iassumption
  isplitr
  · iapply (SparseCore.Cfg.ctx_levAts (K := K (F := F)) (EH := EH) (P := PP m) κ); iexact Hctx
  isplitl [Hc]
  · ihave H := (Entails.of_eq (bigSep_univ_of_subsingleton (0 : Fin 1))) $$ Hc
    iexact H
  · ihave H := (Entails.of_eq (bigSep_univ_of_subsingleton (0 : Fin 1))) $$ Ht
    iexact H

-- an entailment over `pin pcs a p` unifies only when plain definitions in a metavariable's type may be unfolded
set_option backward.isDefEq.respectTransparency.types false in
/-- The matrix product's call, from the buffers as the SparseCore call leaves them to those with the result. -/
theorem wp_product [∀ e, Nonempty (Elt F e)] (κ : GSem nD τ sig → ℕ) (d : Dev nD) :
    iprop((K (F := F)).ctx EH (PP m) κ ∗ boundary (d : Thread nD τ) ∗ (K (F := F)).tcSt EH d 1 ∗ held (d : Thread nD τ) ucRefs (V2 m d) ∗ G d)
      ⊢ wp frame (wpE ((K (F := F)).defs (D (F := F))) 𝒱 (d : Thread nD τ) none) Set.univ
          (Prog.lift (.customCall (SparseCore.inner (Pipeline.entry 0)) ()))
          fun _ => iprop(boundary (d : Thread nD τ) ∗ (K (F := F)).tcSt EH d 1 ∗ held (d : Thread nD τ) ucRefs (V3 m d)) := by
  refine BI.Entails.trans ?_ ((K (F := F)).wp_liftProg (D (F := F)) 𝒱 (d : Thread nD τ) Set.univ none
    (Prog.lift (.customCall (Pipeline.entry (0 : Fin 1)) ())) _)
  have hw := Pipeline.RegionSeg.wp (pcfgs (F := F)) adm (pdats lvl1 (fun d b => V2 m d (ref b)) adm) none pin_inj EP defs₀ 𝒱₀
    (K (F := F)).L (K (F := F)).lev (reg m) d none (fun u hu => absurd hu (by simp)) (fun x => Prog.ret x)
    (fun _ => iprop(boundary (d : Thread nD τ) ∗ (K (F := F)).tcSt EH d 1 ∗ held (d : Thread nD τ) ucRefs (V3 m d)))
  refine BI.Entails.trans ?_ hw
  exact region_in m κ d

/-- @main on device `d`'s TensorCore: the host's operations, the SparseCore call, the matrix product. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_split d]
  have e0 : (unscopedBufs d (fun b => m ((SparseCore.T d).loc b)) : sProp 𝕄) = held (d : Thread nD τ) ucRefs (V0 m d) := unscopedBufs_held d (V0 m d)
  rw [e0]
  iintro ⟨#Hctx, Hst, ⟨Hb, Hh, Hts, -⟩, Hg⟩
  iapply (StableHlo.wp_seq 𝒱 none Set.univ d ucRefs _ hostOps ops_uc ops_fresh (V0 m d)) $$ [Hb Hh]
  · isplitl [Hb] <;> iassumption
  iintro ⟨Hb, Hh⟩
  ihave Hh := (held_before m d) $$ Hh
  icases Hh with ⟨Hop, Hh⟩
  rw [wp_bind]
  iapply ((K (F := F)).wp_run (D (F := F)) 𝒱 (EH := EH) (P := PP m) κ d 0) $$ [Hst Hop Hh Hb Hts Hg]
  isplitr; · iexact Hctx
  isplitl [Hst]; · iexact Hst
  isplitl [Hop]; · iexact Hop
  iintro ⟨Hst, Hop⟩
  ihave Hh := (held_after m d) $$ [Hop Hh]
  · isplitl [Hop] <;> iassumption
  rw [wp_bind]
  iapply (wp_wand_r Idealize.ShloMosaic.frame _ _)
  isplitl [Hst Hb Hh Hg]
  · iapply (wp_product m κ d)
    isplitr; · iexact Hctx
    isplitl [Hb]; · iexact Hb
    isplitl [Hst]; · iexact Hst
    isplitl [Hh] <;> iassumption
  iintro %x ⟨Hb, Hst, Hh⟩
  rw [wp_pure]; imodintro
  isplitl [Hst]; · iexact Hst
  isplitl [Hh]; · iexact Hh
  isplitl [Hb] <;> iassumption

/-! ## The final memory -/

def fq (d : Dev nD) (s' : Phys nD τ sig (Elt F)) : Prop := ∀ b ∈ ucRefs, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro; exact h

def QC : PUnit × MemSt nD τ sig (Elt F) → Prop := fun r => (∀ d : Dev nD, ∀ b ∈ ucRefs, r.2.mem (d, b) = V3 m d b) ∧ r.2.sem = fun _ => 0

theorem run_main [∀ e, Nonempty (Elt F e)] (hB : ∀ d, TileOK (bnV m d) (btV m d) (acV m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (bnV m) (btV m) (acV m) (vlV m) (fdV m) facts hB)
    (fun q _ => match q with | 0 => SparseCore.Cfg.VecSplit.of_plain (vecSplit (bnV m) (btV m) (acV m) (vlV m) (fdV m)))
    m ρ main G (FIN m) (u₀ (F := F)) (sep_elim_left.trans (hu₀ m)) (hmain m ρ) (fq m) (hfin m) (QC m) (fun _ h hz => ⟨h, hz⟩)

end Cert.Proof

end
-- ==== Proof.Host.lean ====
/-
  What the host's operations leave in the table of bounds: for every boundary between bands of 128 rows, how many entries lie before it.
-/
module

public import proofs.«01_k».proof.Proof.Main
public import Idealize.ShloMosaic.Lib.StableHlo.Predicate
public import Idealize.ShloMosaic.Lib.ValueIdxCore

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo
open Idealize.ShloMosaic.StableHlo.Predicate
open Idealize.ShloMosaic.TcCoe
open Idealize.ShloMosaic.ValueIdx (ix1 ix2 gather_take_apply takeDims takeIdx)

/-! ## The table as the host computes it -/

/-- The first row of every band, and the row after the last band. -/
def edgeV : IVec S129 32 :=
  addi (broadcastInDim S129 ![] bcast_S_S129 (constantI S_ 32 0#32)) (muli (broadcastInDim S129 ![] bcast_S_S129 (constantI S_ 32 128#32)) (iotaInDim S129 32 0))

/-- Which entries lie before which of them. -/
def beforeV (bt : IVec S524288 32) : IVec S524288x129 1 :=
  cmpi .slt (broadcastInDim S524288x129 ![0, 1] bcast_S524288x1_S524288x129_0_1 (broadcastInDim S524288x1 ![0] bcast_S524288_S524288x1_0 bt))
    (broadcastInDim S524288x129 ![0, 1] bcast_S1x129_S524288x129_0_1 (broadcastInDim S1x129 ![1] bcast_S129_S1x129_1 edgeV))

/-- How many. -/
def countV (bt : IVec S524288 32) : IVec S129 32 :=
  Host.reduce IntOp.addi (extui 32 (beforeV bt) natLt_1_32) (constantI S_ 32 0#32) reducesTo_S524288x129_S129_d0 h_S_

/-- Four times the tile's number plus the lane, at most 128. -/
def clipV : IVec S32x16 32 :=
  minsi (broadcastInDim S32x16 ![] bcast_S_S32x16 (id (constantI S_ 32 128#32)))
    (maxsi (broadcastInDim S32x16 ![] bcast_S_S32x16 (id (constantI S_ 32 0#32)))
      (addi (broadcastInDim S32x16 ![0, 1] bcast_S32x1_S32x16_0_1
          (muli (broadcastInDim S32x1 ![] bcast_S_S32x1 (constantI S_ 32 4#32)) (broadcastInDim S32x1 ![0] bcast_S32_S32x1_0 (iotaInDim S32 32 0))))
        (broadcastInDim S32x16 ![0, 1] bcast_S1x16_S32x16_0_1 (broadcastInDim S1x16 ![1] bcast_S16_S1x16_1 (iotaInDim S16 32 0)))))

/-- The same as the gather reads it. -/
def pickV : IVec S32x16 32 :=
  select (cmpi .slt clipV (broadcastInDim S32x16 ![] bcast_S_S32x16 (constantI S_ 32 0#32)))
    (addi clipV (broadcastInDim S32x16 ![] bcast_S_S32x16 (constantI S_ 32 129#32))) clipV

/-- The table. -/
def tableV (bt : IVec S524288 32) : IVec S32x16 32 :=
  Host.gather gather_S129_S32x16x1_S32x16_n_0_n_n_0_2_1 (countV bt) (broadcastInDim S32x16x1 ![0, 1] bcast_S32x16_S32x16x1_0_1 pickV)

theorem bnV_eq (m : (ℓ : Loc nD τ sig) → Buf (Elt F) ℓ) (d : Dev nD) : bnV m d = tableV (m ((d : Thread nD τ).loc main_arg0)) := by
  show after hostOps (V0 m d) (ref main_v22) = _
  simp only [hostOps, TRef.binary, TRef.nullary, TRef.ternary, TRef.unary, TRef.toBuf, TRef.ofBuf, cast_eq]
  after_results_simp <;> rfl

/-! ## Read at an index -/

theorem edge_at (b : Fin 129) : edgeV (Shape.Idx.ofFin b) = BitVec.ofNat 32 (128 * b.val) := by
  show 0#32 + 128#32 * BitVec.ofNat 32 b.val = _
  apply BitVec.eq_of_toNat_eq
  have := b.isLt
  simp only [BitVec.toNat_add, BitVec.toNat_mul, BitVec.toNat_ofNat]
  omega

/-- The entries whose row is below `128 b`, counted. -/
def cnt (bt : IVec S524288 32) (b : ℕ) : ℕ := (Finset.univ.filter fun p : Fin 524288 => (bt (Shape.Idx.ofFin p)).toNat < 128 * b).card

theorem count_at (bt : IVec S524288 32) (hb : ∀ i, (bt i).toNat < 2 ^ 31) (b : Fin 129) : (countV bt (Shape.Idx.ofFin b)).toNat = cnt bt b.val := by
  unfold countV cnt
  rw [toNat_reduce_count_rows (by decide)]
  refine congrArg Finset.card (Finset.filter_congr fun p _ => ?_)
  have e : beforeV bt (ij p ((Shape.Idx.ofFin b : S129.Idx) 0)) = IntOp.cmpi .slt (bt (Shape.Idx.ofFin p)) (edgeV (Shape.Idx.ofFin b)) := by
    exact congrArg₂ (IntOp.cmpi .slt) (bcast_rows _ _ bt p b) (bcast_cols _ _ edgeV p b)
  rw [e, edge_at, slt_iff_toNat (hb _) (by rw [BitVec.toNat_ofNat]; have := b.isLt; omega), BitVec.toNat_ofNat]
  have := b.isLt
  rw [Nat.mod_eq_of_lt (by omega)]

theorem pick_at : ∀ (w : Fin 32) (j : Fin 5), pickV (ix2 w (j.castLE (by decide : 5 ≤ 16))) = BitVec.ofNat 32 (4 * w.val + j.val) := by
  decide +kernel

theorem table_at (bt : IVec S524288 32) (hb : ∀ i, (bt i).toNat < 2 ^ 31) (w : Fin 32) (j : Fin 5) :
    (bnAt (tableV bt) w.val j.val).toNat = cnt bt (4 * w.val + j.val) := by
  have hw := w.isLt
  have hj := j.isLt
  have e : bnAt (tableV bt) w.val j.val = countV bt (Shape.Idx.ofFin ⟨4 * w.val + j.val, by omega⟩) := by
    unfold bnAt tableV
    refine (gather_take_apply (N := 129) (R := 32) (C := 16) (by decide) _ _ _ _).trans ?_
    have hp : broadcastInDim S32x16x1 ![0, 1] bcast_S32x16_S32x16x1_0_1 pickV
        (takeIdx (fun a => ⟨(![w.val, j.val] : Fin 2 → ℕ) a % S32x16.size a, Nat.mod_lt _ (by fin_cases a <;> decide)⟩ : S32x16.Idx))
        = BitVec.ofNat 32 (4 * w.val + j.val) := by
      rw [← pick_at w j]
      show pickV _ = _
      congr 1
      funext a
      fin_cases a
      · exact Fin.ext (by rw [dif_neg (by decide)]; show w.val % 32 = w.val; omega)
      · exact Fin.ext (by rw [dif_neg (by decide)]; show j.val % 16 = j.val; omega)
    congr 1
    funext a
    obtain rfl : a = 0 := Subsingleton.elim _ _
    refine Fin.ext ?_
    show min (BitVec.toInt _).toNat (129 - 1) = 4 * w.val + j.val
    rw [hp, toInt_ofNat_small _ (by omega)]
    omega
  rw [e, count_at bt hb]

end Cert.Proof

end
-- ==== Proof.Order.lean ====
/-
  The order of the entries: the table of bounds delimits every band's entries.
-/
module

public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo.Predicate

/-- What the inputs satisfy: the rows in range and in order, the features in range. -/
structure InOK (bt ac : IVec S524288 32) : Prop where
  rng : ∀ i, (bt i).toNat < 16384
  mono : ∀ n, n + 1 < 524288 → (bt (eIx n)).toNat ≤ (bt (eIx (n + 1))).toNat
  act : ∀ i, (ac i).toNat < 49152

theorem eIx_fin (p : Fin 524288) : (Shape.Idx.ofFin p : S524288.Idx) = eIx p.val := by
  funext a
  obtain rfl : a = 0 := Subsingleton.elim _ _
  exact Fin.ext (Nat.mod_eq_of_lt p.isLt).symm

theorem idx_eIx (i : S524288.Idx) : i = eIx (i 0).val := by
  funext a
  obtain rfl : a = 0 := Subsingleton.elim _ _
  exact Fin.ext (Nat.mod_eq_of_lt (i 0).isLt).symm

section

variable {bt ac : IVec S524288 32} (h : InOK bt ac)

include h

theorem InOK.le {n n' : ℕ} (hn : n ≤ n') (h' : n' < 524288) : (bt (eIx n)).toNat ≤ (bt (eIx n')).toNat := by
  induction n', hn using Nat.le_induction with
  | base => exact le_rfl
  | succ k hk ih => exact (ih (by omega)).trans (h.mono k h')

/-- An entry lies before boundary `b` exactly when its row does. -/
theorem InOK.lt_cnt {n : ℕ} (hn : n < 524288) (b : ℕ) : n < cnt bt b ↔ (bt (eIx n)).toNat < 128 * b := by
  unfold cnt
  constructor
  · intro hc
    by_contra hb
    have hs : (Finset.univ.filter fun p : Fin 524288 => (bt (Shape.Idx.ofFin p)).toNat < 128 * b) ⊆ Finset.Iio (⟨n, hn⟩ : Fin 524288) := by
      intro p hp
      have hp' := (Finset.mem_filter.mp hp).2
      rw [eIx_fin] at hp'
      refine Finset.mem_Iio.mpr (Fin.lt_def.mpr ?_)
      show p.val < n
      by_contra hlt
      have := h.le (n := n) (n' := p.val) (by omega) p.isLt
      omega
    exact absurd ((Finset.card_le_card hs).trans_eq (Fin.card_Iio (⟨n, hn⟩ : Fin 524288))) (Nat.not_le.mpr hc)
  · intro hb
    have hs : Finset.Iic (⟨n, hn⟩ : Fin 524288) ⊆ Finset.univ.filter fun p : Fin 524288 => (bt (Shape.Idx.ofFin p)).toNat < 128 * b := by
      intro p hp
      have hle : p.val ≤ n := Fin.le_def.mp (Finset.mem_Iic.mp hp)
      refine Finset.mem_filter.mpr ⟨Finset.mem_univ _, ?_⟩
      rw [eIx_fin]
      exact lt_of_le_of_lt (h.le hle hn) hb
    exact (Fin.card_Iic (⟨n, hn⟩ : Fin 524288)).symm.trans_le (Finset.card_le_card hs)

omit h in
theorem cnt_le (bt : IVec S524288 32) (b : ℕ) : cnt bt b ≤ 524288 := (Finset.card_filter_le _ _).trans_eq (by rw [Finset.card_univ, Fintype.card_fin])

omit h in
theorem cnt_mono (bt : IVec S524288 32) {b b' : ℕ} (hb : b ≤ b') : cnt bt b ≤ cnt bt b' :=
  Finset.card_le_card fun p hp => Finset.mem_filter.mpr ⟨Finset.mem_univ _, lt_of_lt_of_le (Finset.mem_filter.mp hp).2 (by omega)⟩

/-- The table's two entries for band `b`. -/
theorem InOK.lo {b : ℕ} (hb : b < 128) : (bnAt (tableV bt) (b / 4) (b % 4)).toNat = cnt bt b := by
  have := table_at bt (fun i => by have := h.rng i; omega) ⟨b / 4, by omega⟩ ⟨b % 4, by omega⟩
  exact this.trans (congrArg (cnt bt) (by show 4 * (b / 4) + b % 4 = b; omega))

theorem InOK.hi {b : ℕ} (hb : b < 128) : (bnAt (tableV bt) (b / 4) (b % 4 + 1)).toNat = cnt bt (b + 1) := by
  have := table_at bt (fun i => by have := h.rng i; omega) ⟨b / 4, by omega⟩ ⟨b % 4 + 1, by omega⟩
  exact this.trans (congrArg (cnt bt) (by show 4 * (b / 4) + (b % 4 + 1) = b + 1; omega))

theorem InOK.tile : TileOK (tableV bt) bt ac := fun b hb => {
  le := by rw [h.lo hb, h.hi hb]; exact cnt_mono bt (Nat.le_succ b)
  ub := by rw [h.hi hb]; exact cnt_le bt _
  rows := fun n hs he => by
    rw [h.lo hb] at hs
    rw [h.hi hb] at he
    have hn : n < 524288 := lt_of_lt_of_le he (cnt_le bt _)
    have h1 := (h.lt_cnt hn (b + 1)).mp he
    have h2 : ¬ (bt (eIx n)).toNat < 128 * b := fun hc => absurd ((h.lt_cnt hn b).mpr hc) (Nat.not_lt.mpr hs)
    rw [BitVec.toNat_ofNat, Nat.mod_eq_of_lt (by omega)]
    constructor <;> omega
  cols := fun j => by have := h.act j; omega }

end

end Cert.Proof

end
-- ==== Proof.Pre.lean ====
/-
  The preconditions, decoded.
-/
module

public import proofs.«01_k».proof.Proof.Order
public import proofs.«01_k».proof.Defs

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo.Predicate

/-! ## The shape facts the preconditions name -/

instance preFacts : Cert.Pre_indices.Facts where
  bcast_S_S524288 := by decide
  slices_S524288_S524287_0 := by decide
  slices_S524288_S524287_1 := by decide

instance preTableFacts : Cert.Pre_indices_and_table.Facts where
  bcast_S_S524288 := by decide
  bcast_S_S49152 := by decide
  slices_S524288_S524287_0 := by decide
  slices_S524288_S524287_1 := by decide

/-! ## What they say -/

theorem and_one {p q : BitVec 1} : IntOp.andi p q = 1#1 ↔ p = 1#1 ∧ q = 1#1 := by
  revert p q; decide

/-- Between zero and a small bound, signed: so unsigned. -/
theorem range_of {x : BitVec 32} {b : ℕ} (hb : b < 2 ^ 31) (h0 : IntOp.cmpi .sge x 0#32 = 1#1) (h1 : IntOp.cmpi .slt x (BitVec.ofNat 32 b) = 1#1) : x.toNat < b := by
  have e : (BitVec.ofNat 32 b).toInt = b := toInt_ofNat_small b hb
  simp only [IntOp.cmpi, ofBool_eq_one_iff, BitVec.sle_eq_decide, BitVec.slt_eq_decide, decide_eq_true_eq, e, BitVec.toInt_eq_toNat_cond,
    BitVec.toNat_ofNat, Nat.reducePow, Nat.reduceMod] at h0 h1
  omega

theorem in_ok {a0 a1 : IVec S524288 32}
    (hr : ∀ i, IntOp.andi (IntOp.andi (IntOp.andi (IntOp.cmpi .sge (a0 i) 0#32) (IntOp.cmpi .slt (a0 i) 16384#32)) (IntOp.cmpi .sge (a1 i) 0#32))
      (IntOp.cmpi .slt (a1 i) 49152#32) = 1#1)
    (hm : ∀ n, n + 1 < 524288 → IntOp.cmpi .sle (a0 (eIx n)) (a0 (eIx (n + 1))) = 1#1) : InOK a0 a1 := by
  have hb : ∀ i, (a0 i).toNat < 16384 ∧ (a1 i).toNat < 49152 := fun i => by
    obtain ⟨h3, h4⟩ := and_one.mp (hr i)
    obtain ⟨h2, h3⟩ := and_one.mp h3
    obtain ⟨h1, h2⟩ := and_one.mp h2
    exact ⟨range_of (by decide) h1 h2, range_of (by decide) h3 h4⟩
  refine ⟨fun i => (hb i).1, fun n hn => ?_, fun i => (hb i).2⟩
  have h0 := (hb (eIx n)).1
  have h1 := (hb (eIx (n + 1))).1
  exact (sle_iff_toNat (by omega) (by omega)).mp (hm n hn)

/-- Entry `n` of the first slice and of the second: entries `n` and `n + 1`. -/
theorem slice_at {α : Type} (x : S524288.Idx → α) {o n : ℕ} (ho : o ≤ 1) (hn : n + 1 < 524288) (h : S524288.Slices ![o] (⟨1, ![524287]⟩ : Shape)) :
    extractStridedSlice (⟨1, ![524287]⟩ : Shape) ![o] x h (Shape.Idx.ofFin ⟨n, by omega⟩) = x (eIx (n + o)) := by
  unfold extractStridedSlice
  congr 1
  funext a
  obtain rfl : a = 0 := Subsingleton.elim _ _
  refine Fin.ext ?_
  show o + n = (n + o) % 524288
  omega

theorem ok_of_indices {a0 a1 : IVec S524288 32} {a2 : FVec F S524288 .f32} {a3 : IVec S49152 32} {a4 : FVec F S768x256 .f32}
    (h : (Cert.Pre_indices.fn (F := F) a0 a1 a2 a3 a4).1 = fun _ => 1#1) (h' : (Cert.Pre_indices.fn (F := F) a0 a1 a2 a3 a4).2 = fun _ => 1#1) : InOK a0 a1 :=
  in_ok (fun i => congrFun h i) fun n hn => by
    exact (congrArg₂ (IntOp.cmpi .sle) (slice_at a0 (o := 0) (by omega) hn Cert.Pre_indices.Facts.slices_S524288_S524287_0)
      (slice_at a0 (o := 1) (by omega) hn Cert.Pre_indices.Facts.slices_S524288_S524287_1)).symm.trans (congrFun h' (Shape.Idx.ofFin ⟨n, by omega⟩))

theorem ok_of_table {a0 a1 : IVec S524288 32} {a2 : FVec F S524288 .f32} {a3 : IVec S49152 32} {a4 : FVec F S768x256 .f32}
    (h : (Cert.Pre_indices_and_table.fn (F := F) a0 a1 a2 a3 a4).1 = fun _ => 1#1)
    (h' : (Cert.Pre_indices_and_table.fn (F := F) a0 a1 a2 a3 a4).2.1 = fun _ => 1#1) : InOK a0 a1 :=
  in_ok (fun i => congrFun h i) fun n hn => by
    exact (congrArg₂ (IntOp.cmpi .sle) (slice_at a0 (o := 0) (by omega) hn Cert.Pre_indices.Facts.slices_S524288_S524287_0)
      (slice_at a0 (o := 1) (by omega) hn Cert.Pre_indices.Facts.slices_S524288_S524287_1)).symm.trans (congrFun h' (Shape.Idx.ofFin ⟨n, by omega⟩))

/-- The table holds every feature modulo 768. -/
theorem table_of {a0 a1 : IVec S524288 32} {a2 : FVec F S524288 .f32} {a3 : IVec S49152 32} {a4 : FVec F S768x256 .f32}
    (h : (Cert.Pre_indices_and_table.fn (F := F) a0 a1 a2 a3 a4).2.2 = fun _ => 1#1) (n : Fin 49152) :
    a3 (Shape.Idx.ofFin n) = BitVec.ofNat 32 (n.val % 768) := by
  have e := cmpi_eq_iff.mp (congrFun h (Shape.Idx.ofFin n))
  rw [e]
  apply BitVec.eq_of_toNat_eq
  have hn := n.isLt
  show (IntOp.remsi .host (BitVec.ofNat 32 n.val) 768#32).toNat = _
  rw [IntOp.toNat_remsi .host (x := BitVec.ofNat 32 n.val) (by rw [BitVec.toNat_ofNat]; omega) 768 (by decide) (by decide)]
  simp only [BitVec.toNat_ofNat]
  omega

end Cert.Proof

end
-- ==== Proof.Frames.lean ====
/-
  The frames: what every program leaves unchanged.
-/
module

public import proofs.«01_k».proof.Proof.Pre
public import Idealize.ShloMosaic.Lib.Quiescent
public import proofs.«01_k».proof.Proof.Gen.Kernel
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe

section Run

variable [∀ e, Nonempty (Elt F e)] (m : (ℓ : Loc nD τ sig) → Buf (Elt F) ℓ)

/-- The run from inputs that satisfy the precondition. -/
theorem run_ok (ρ : Dev nD → PrngReg)
    (h : ∀ d : Dev nD, InOK (m ((d : Thread nD τ).loc main_arg0)) (m ((d : Thread nD τ).loc main_arg1))) :
    θ_run (Cert.KernelIdeal.defs (F := F)) (Cert.KernelIdeal.threads (F := F)) ⟨m, fun _ => 0, ρ⟩ (QC m) :=
  run_main m ρ fun d => by
    rw [bnV_eq]
    show TileOK _ (V1 m d (ref main_arg0)) (V1 m d (ref main_arg1))
    rw [V1_arg m d _ (by decide), V1_arg m d _ (by decide)]
    exact (h d).tile

/-- An argument at the end of the run. -/
theorem arg_end {r : PUnit × MemSt nD τ sig (Elt F)} (h : QC m r) (d : Dev nD)
    (b : Ref sig .tc) (hs : b.isScoped = false) (hb : b ∉ hostW) (h3 : b ≠ main_v23) (h4 : b ≠ main_v24) :
    r.2.mem ((d : Thread nD τ).loc b) = m ((d : Thread nD τ).loc b) :=
  (h.1 d (ref b) (ref_uc b hs)).trans ((V3_ne m d h4).trans ((V2_ne m d h3).trans (V1_arg m d b hb)))

theorem frame_of {r : PUnit × MemSt nD τ sig (Elt F)} (h : QC m r) (d : Dev nD) :
    r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4) :=
  ⟨arg_end m h d _ rfl (by decide) (by decide) (by decide), arg_end m h d _ rfl (by decide) (by decide) (by decide),
    arg_end m h d _ rfl (by decide) (by decide) (by decide), arg_end m h d _ rfl (by decide) (by decide) (by decide),
    arg_end m h d _ rfl (by decide) (by decide) (by decide)⟩

end Run

/-! The two programs have one text: their body tables agree entry by entry, and with them their runs. -/

theorem table_vector (c s l a) : Cert.Kernel.defs₀ (F := Bits) (.scVector c s) l a = defs₀ (.scVector c s) l a := by
  match l, a with
  | 0, a => rfl
  | 1, a => rfl

theorem table_scalar (c l a) : Cert.Kernel.defs₀ (F := Bits) (.scScalar c) l a = defs₀ (.scScalar c) l a := by
  match l, a with
  | 0, a => rfl
  | 1, a => rfl

theorem table_tc (l a) : Cert.Kernel.defs₀ (F := Bits) .tc l a = defs₀ .tc l a := by
  match l, a with
  | 0, a => rfl
  | 1, (t, s) => rfl

theorem table_same : Cert.Kernel.defs₀ (F := Bits) = defs₀ := by
  funext p l a
  match p with
  | .scVector c s => exact table_vector c s l a
  | .scScalar c => exact table_scalar c l a
  | .tc => exact table_tc l a

theorem defs_same : Cert.Kernel.defs (F := Bits) = Cert.KernelIdeal.defs := by
  unfold Cert.Kernel.defs Cert.KernelIdeal.defs
  rw [table_same]
  rfl

theorem frame_kernel : Cert.quiescent_Kernel := by
  intro m ρ hp
  have h := run_ok (F := Bits) m ρ fun d => ok_of_indices (F := Bits) (hp d).1 (hp d).2
  rw [← defs_same] at h
  exact (θ_run Cert.Kernel.defs _ _).mono (fun r h => ⟨fun c => frame_of (F := Bits) m h c, h.2⟩) h

theorem frame_ideal : Cert.quiescent_KernelIdeal := fun m ρ hp =>
  (θ_run Cert.KernelIdeal.defs _ _).mono (fun _ h => ⟨fun c => frame_of m h c, h.2⟩) (run_ok m ρ fun d => ok_of_indices (hp d).1 (hp d).2)

theorem frame_ideal_table : Cert.quiescent_KernelIdeal_pre_indices_and_table := fun m ρ hp =>
  (θ_run Cert.KernelIdeal.defs _ _).mono (fun _ h => ⟨fun c => frame_of m h c, h.2⟩) (run_ok m ρ fun d => ok_of_table (hp d).1 (hp d).2.1)

theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run m ρ)

theorem frame_reference_table : Cert.quiescent_ReferenceIdeal_pre_indices_and_table := fun m ρ _ =>
  frame_reference m ρ trivial

end Cert.Proof

end
-- ==== Proof.Prod.lean ====
/-
  The matrix product over the reals, element by element.
-/
module

public import proofs.«01_k».proof.Proof.Mm
public import Idealize.ShloMosaic.Lib.StackMember
public import Idealize.ShloMosaic.PureOps.Ideal.Laws

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx Idealize.ShloMosaic.StackMember

/-- A block's product, read at an element. -/
theorem pay_at (x : Vec Ideal S1024x768 .f32) (w : Vec Ideal S768x256 .f32) (a : Fin 1024) (b : Fin 256) :
    (k1_pay1 (F := Ideal) x w (ix2 a b) : EReal) = ∑ c : Fin 768, (x (ix2 a c) : EReal) * (w (ix2 c b) : EReal) := by
  have e : k1_pay1 (F := Ideal) x w = FloatOps.matmul (φ₁ := .f32) (φ₂ := .f32) (DotDims.plain 1024 768 256) none x w (constant S1024x256 .f32 0x00000000#32) := by
    unfold k1_pay1
    rw [shapeCast_self]
    rfl
  rw [e, Ideal.matmul_constant_zero_apply]
  refine Eq.trans ?_ (dotGeneral_plain_apply (φ₁ := .f32) (φ₂ := .f32) none x w a b)
  exact (Ideal.dotGeneral_apply (φ₁ := .f32) (φ₂ := .f32) (DotDims.plain 1024 768 256) none .single x w (ix2 a b)).symm

/-- The product, read at an element. -/
theorem mm_at (x : Vec Ideal S16384x768 .f32) (w : Vec Ideal S768x256 .f32) (a : Fin 16384) (b : Fin 256) :
    (mmF (F := Ideal) x w (ix2 a b) : EReal) = ∑ c : Fin 768, (x (ix2 a c) : EReal) * (w (ix2 c b) : EReal) := by
  have e : subIx (ix2 a b) = ix2 (⟨a.val % 1024, Nat.mod_lt _ (by decide)⟩ : Fin 1024) b := by
    funext d
    fin_cases d <;> rfl
  unfold mmF
  rw [e, pay_at]
  refine Finset.sum_congr rfl fun c _ => ?_
  congr 2
  funext d
  fin_cases d
  · refine Fin.ext ?_
    show 1024 * (a.val / 1024) + a.val % 1024 = a.val
    omega
  · rfl

end Cert.Proof

end
-- ==== Proof.Sums.lean ====
/-
  The dense result over the reals: every element is the sum of the values whose row and column it is.
-/
module

public import proofs.«01_k».proof.Proof.Order
public import Idealize.ShloMosaic.PureOps.Ideal.Laws

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One store -/

/-- A fold of steps each of which adds to an element. -/
theorem fold_add {X K : Type} (st : (X → EReal) → K → X → EReal) (f : K → EReal) (j : X) (h : ∀ g k, st g k j = g j + f k) (l : List K) (g : X → EReal) :
    l.foldl st g j = g j + (l.map f).sum := by
  induction l generalizing g with
  | nil => exact (add_zero _).symm
  | cons k l ih => rw [List.foldl_cons, ih, List.map_cons, List.sum_cons, ← add_assoc, h]

/-- Lane `k` of sixteen. -/
def laneIx (k : Fin 16) : S16.Idx := Shape.ofLane (d := ![16]) k

/-- What lane `k` of a masked store adds to element `j`. -/
def laneAdd (rows cols : IVec S16 32) (v : FVec Ideal S16 .f32) (msk : IVec S16 1) (j : S128x768.Idx) (k : Fin 16) : EReal :=
  if msk (laneIx k) = 1 ∧ (j 0).val = (rows (laneIx k)).toNat
    ∧ (j 1).val = (cols (laneIx k)).toNat then v (laneIx k) else 0

/-- A masked store that adds, read at an element: what was there, and the values of the lanes that name it. -/
theorem store_at (g : Vec Ideal S128x768 .f32) (rows cols : IVec S16 32) (v : FVec Ideal S16 .f32) (msk : IVec S16 1)
    (h : ∀ a x, ((![rows, cols] : Fin 2 → IVec S16 32) a x).toNat < S128x768.size a) (j : S128x768.Idx) :
    (storeIdx (e := .f32) g ![rows, cols] v msk true h j : EReal) = (g j : EReal) + ∑ k : Fin 16, laneAdd rows cols v msk j k := by
  rw [Fin.sum_univ_def]
  unfold storeIdx
  refine fold_add (X := S128x768.Idx) (K := Fin 16) _ _ j (fun g k => ?_) (List.finRange 16) g
  unfold laneAdd
  by_cases hm : msk (laneIx k) = 1
  · refine Eq.trans (congrFun (if_pos hm) j) ?_
    by_cases hj : (j 0).val = (rows (laneIx k)).toNat ∧ (j 1).val = (cols (laneIx k)).toNat
    · have hall : ∀ a, (j a).val = (idxAt ![rows, cols] h (laneIx k) a).val := by
        intro a
        fin_cases a
        · exact hj.1
        · exact hj.2
      have he : idxAt ![rows, cols] h (laneIx k) = j := funext fun a => Fin.ext (hall a).symm
      have e2 : (msk (laneIx k) = 1 ∧ (j 0).val = (rows (laneIx k)).toNat ∧ (j 1).val = (cols (laneIx k)).toNat) := And.intro hm hj
      rw [if_pos e2]
      refine Eq.trans (if_pos hall) ?_
      show (g (idxAt ![rows, cols] h (laneIx k)) : EReal) + v (laneIx k) = g j + v (laneIx k)
      rw [he]
    · have hall : ¬ ∀ a, (j a).val = (idxAt ![rows, cols] h (laneIx k) a).val := fun hc => hj ⟨hc 0, hc 1⟩
      have e2 : ¬ (msk (laneIx k) = 1 ∧ (j 0).val = (rows (laneIx k)).toNat ∧ (j 1).val = (cols (laneIx k)).toNat) := fun hc => hj hc.2
      rw [if_neg e2, add_zero]
      exact if_neg hall
  · have e2 : ¬ (msk (laneIx k) = 1 ∧ (j 0).val = (rows (laneIx k)).toNat ∧ (j 1).val = (cols (laneIx k)).toNat) := fun hc => hm hc.1
    rw [if_neg e2, add_zero]
    exact congrFun (if_neg hm) j

/-! ## Trips, rounds, bands -/

/-- What entry `n` adds to element `j` of the band that starts at row `r0`. -/
def ctr (bt ac : IVec S524288 32) (vl : FVec Ideal S524288 .f32) (r0 : ℕ) (j : S128x768.Idx) (n : ℕ) : EReal :=
  if (bt (eIx n)).toNat = r0 + (j 0).val ∧ (ac (eIx n)).toNat % 768 = (j 1).val then vl (eIx n) else 0

/-- The same, of the entries of round `t` only. -/
def ctrIn (bt ac : IVec S524288 32) (vl : FVec Ideal S524288 .f32) (s e r0 : BitVec 32) (t : ℕ) (j : S128x768.Idx) (n : ℕ) : EReal :=
  if max s.toNat (plN s t) ≤ n ∧ n < min e.toNat (plN s t + 2048) then ctr bt ac vl r0.toNat j n else 0

section

variable {bt ac : IVec S524288 32} {s e r0 : BitVec 32} (hb : BandOK bt ac s e r0) (vl : FVec Ideal S524288 .f32) (j : S128x768.Idx)

include hb

theorem lane_at (t k : ℕ) (x : Fin 16) :
    laneAdd (rowN bt (pN s t + 16 * k) (mskN s e t k) r0) (colN ac (pN s t + 16 * k)) (lanesN vl (pN s t + 16 * k)) (mskN s e t k) j x
      = ctrIn bt ac vl s e r0 t j (pN s t + (16 * k + x.val)) := by
  have hn : pN s t + (16 * k + x.val) = pN s t + 16 * k + x.val := by omega
  rw [hn]
  unfold ctrIn laneAdd
  by_cases hm : max s.toNat (plN s t) ≤ pN s t + 16 * k + x.val ∧ pN s t + 16 * k + x.val < min e.toNat (plN s t + 2048)
  · have hmsk : mskN s e t k (laneIx x) = 1#1 := if_pos hm
    have hrow : (rowN bt (pN s t + 16 * k) (mskN s e t k) r0 (laneIx x)).toNat = (bt (eIx (pN s t + 16 * k + x.val))).toNat - r0.toNat := by
      show (Scalar.select (mskN s e t k (laneIx x)) (bt (eIx (pN s t + 16 * k + x.val)) - r0) 0#32).toNat = _
      rw [hmsk]
      unfold Scalar.select
      rw [if_pos (show (1#1 : BitVec 1) = 1 by decide)]
      obtain ⟨h1, h2⟩ := hb.rows (pN s t + 16 * k + x.val) (by omega) (by omega)
      have := (bt (eIx (pN s t + 16 * k + x.val))).isLt
      rw [BitVec.toNat_sub]
      omega
    have hcol : (colN ac (pN s t + 16 * k) (laneIx x)).toNat = (ac (eIx (pN s t + 16 * k + x.val))).toNat % 768 := by
      show (IntOp.remsi .vector (ac (eIx (pN s t + 16 * k + x.val))) 768#32).toNat = _
      have := hb.cols (eIx (pN s t + 16 * k + x.val))
      exact IntOp.toNat_remsi .vector (x := ac (eIx (pN s t + 16 * k + x.val))) (by omega) 768 (by decide) (by decide)
    obtain ⟨h1, h2⟩ := hb.rows (pN s t + 16 * k + x.val) (by omega) (by omega)
    rw [if_pos hm, hrow, hcol, hmsk]
    unfold ctr
    refine if_congr ⟨fun hc => ⟨by omega, by omega⟩, fun hc => ⟨by decide, by omega, by omega⟩⟩ rfl rfl
  · have hmsk : mskN s e t k (laneIx x) = 0#1 := if_neg hm
    rw [if_neg hm, hmsk, if_neg (fun hc => absurd hc.1 (by decide))]

theorem trip_at (t k : ℕ) (g : Vec Ideal S128x768 .f32) :
    (tripN bt ac vl s e r0 t k g j : EReal) = (g j : EReal) + ∑ x ∈ Finset.range 16, ctrIn bt ac vl s e r0 t j (pN s t + (16 * k + x)) := by
  unfold tripN
  rw [dif_pos (chk2_of hb t k), store_at, Finset.sum_range]
  exact congrArg _ (Finset.sum_congr rfl fun x _ => lane_at hb vl j t k x)

theorem trips_at (t n : ℕ) (g : Vec Ideal S128x768 .f32) :
    (tripsN bt ac vl s e r0 t n g j : EReal) = (g j : EReal) + ∑ m ∈ Finset.range (16 * n), ctrIn bt ac vl s e r0 t j (pN s t + m) := by
  induction n with
  | zero => exact (add_zero _).symm
  | succ n ih =>
    show (tripN bt ac vl s e r0 t n (tripsN bt ac vl s e r0 t n g) j : EReal) = _
    rw [trip_at hb, ih, Nat.mul_succ, Finset.sum_range_add, add_assoc]

/-- A round adds the entries of its own stretch. -/
theorem round_at (t : ℕ) (g : Vec Ideal S128x768 .f32) :
    (tripsN bt ac vl s e r0 t 128 g j : EReal)
      = (g j : EReal) + ∑ n ∈ Finset.Ico (max s.toNat (plN s t)) (min e.toNat (plN s t + 2048)), ctr bt ac vl r0.toNat j n := by
  rw [trips_at hb]
  congr 1
  have hu := hb.ub
  have e1 : ∑ m ∈ Finset.range (16 * 128), ctrIn bt ac vl s e r0 t j (pN s t + m) = ∑ n ∈ Finset.Ico (pN s t) (pN s t + 2048), ctrIn bt ac vl s e r0 t j n := by
    rw [Finset.sum_Ico_eq_sum_range, Nat.add_sub_cancel_left]
  rw [e1, ← Finset.sum_subset (s₁ := Finset.Ico (max s.toNat (plN s t)) (min e.toNat (plN s t + 2048)))]
  · refine Finset.sum_congr rfl fun n hn => ?_
    exact if_pos (Finset.mem_Ico.mp hn)
  · intro n hn
    have := Finset.mem_Ico.mp hn
    unfold pN
    refine Finset.mem_Ico.mpr ⟨?_, ?_⟩ <;> omega
  · intro n _ hn
    exact if_neg fun hc => hn (Finset.mem_Ico.mpr hc)

theorem rounds_at (n : ℕ) (hn : n ≤ nbN s e) :
    (roundsN bt ac vl s e r0 n (fun _ => zF (F := Ideal)) j : EReal) = ∑ m ∈ Finset.Ico s.toNat (max s.toNat (min e.toNat (plN s n))), ctr bt ac vl r0.toNat j m := by
  have hle := hb.le
  induction n with
  | zero =>
    have : max s.toNat (min e.toNat (plN s 0)) = s.toNat := by unfold plN alN; omega
    rw [this, Finset.Ico_self, Finset.sum_empty]
    exact Ideal.ofBits_zero_f32
  | succ n ih =>
    show (tripsN bt ac vl s e r0 n 128 (roundsN bt ac vl s e r0 n (fun _ => zF (F := Ideal))) j : EReal) = _
    have hlt := (nb_bound hb.toBndOK (show n < nbN s e by omega)).2
    rw [round_at hb, ih (by omega)]
    have e1 : max s.toNat (min e.toNat (plN s n)) = max s.toNat (plN s n) := by omega
    have e2 : max s.toNat (min e.toNat (plN s (n + 1))) = min e.toNat (plN s n + 2048) := by unfold plN alN; omega
    rw [e1, e2]
    refine Finset.sum_Ico_consecutive _ (by omega) ?_
    unfold plN alN at hlt ⊢
    omega

/-- A band's element: the sum over the band's entries. -/
theorem band_at : (bandN bt ac vl s e r0 j : EReal) = ∑ m ∈ Finset.Ico s.toNat e.toNat, ctr bt ac vl r0.toNat j m := by
  unfold bandN
  rw [rounds_at hb vl j _ le_rfl]
  have hle := hb.le
  have : max s.toNat (min e.toNat (plN s (nbN s e))) = e.toNat := by unfold plN nbN alN; omega
  rw [this]

end

/-! ## The dense result -/

/-- Element `i` of the dense result: the sum of the values whose row and column it is. -/
def denseS (bt ac : IVec S524288 32) (vl : FVec Ideal S524288 .f32) (i : S16384x768.Idx) : EReal :=
  ∑ p : S524288.Idx, if (bt p).toNat = (i 0).val ∧ (ac p).toNat % 768 = (i 1).val then (vl p : EReal) else 0

/-- A sum over the entries, counted. -/
theorem sum_entries (f : S524288.Idx → EReal) : ∑ n ∈ Finset.range 524288, f (eIx n) = ∑ p : S524288.Idx, f p := by
  refine Finset.sum_bij' (fun n _ => eIx n) (fun p _ => (p 0).val) (fun _ _ => Finset.mem_univ _) (fun p _ => Finset.mem_range.mpr (p 0).isLt)
    (fun n hn => Nat.mod_eq_of_lt (Finset.mem_range.mp hn)) (fun p _ => (idx_eIx p).symm) (fun _ _ => rfl)

theorem dense_at {bt ac : IVec S524288 32} (h : InOK bt ac) (vl : FVec Ideal S524288 .f32) (i : S16384x768.Idx) :
    (denseF (tableV bt) bt ac vl i : EReal) = denseS bt ac vl i := by
  have h0 : (i 0).val < 16384 := (i 0).isLt
  have h1 : (i 1).val < 768 := (i 1).isLt
  have hb : (i 0).val / 128 < 128 := by omega
  unfold denseF bandF
  rw [band_at (h.tile _ hb), h.lo hb, h.hi hb]
  unfold denseS
  rw [← sum_entries]
  have hr : (BitVec.ofNat 32 ((i 0).val / 128 * 128)).toNat = (i 0).val / 128 * 128 := by rw [BitVec.toNat_ofNat]; omega
  rw [hr]
  refine Eq.trans (Finset.sum_congr rfl fun n _ => ?_) (Finset.sum_subset ?_ ?_)
  · unfold ctr
    refine if_congr ?_ rfl rfl
    show (bt (eIx n)).toNat = (i 0).val / 128 * 128 + (i 0).val % 128 % 128 ∧ (ac (eIx n)).toNat % 768 = (i 1).val % 768 ↔ _
    constructor <;> rintro ⟨h2, h3⟩ <;> constructor <;> omega
  · intro n hn
    have := (Finset.mem_Ico.mp hn).2
    have := cnt_le bt ((i 0).val / 128 + 1)
    exact Finset.mem_range.mpr (by omega)
  · intro n hn hout
    have hn' := Finset.mem_range.mp hn
    refine if_neg fun hc => hout (Finset.mem_Ico.mpr ⟨?_, ?_⟩)
    · by_contra hlt
      have := (h.lt_cnt hn' _).mp (Nat.not_le.mp hlt)
      omega
    · refine (h.lt_cnt hn' _).mpr ?_
      omega

end Cert.Proof

end
-- ==== Proof.Ref.lean ====
/-
  The reference over the reals, element by element.
-/
module

public import proofs.«01_k».proof.Proof.Sums
public import proofs.«01_k».proof.Proof.Gen.ReferenceIdeal
public import proofs.«01_k».proof.Proof.Gen.ReferenceIdeal.Run
public import Idealize.ShloMosaic.Lib.StackMember
public import Idealize.ShloMosaic.Lib.ReduceAll
public import Idealize.ShloMosaic.Lib.Pipeline.Value
public import Idealize.ShloMosaic.Lib.Routing.OpsPair
public import Idealize.ShloMosaic.Lib.Routing.OpsSet

@[expose] public section

noncomputable section

namespace Cert.Proof

open Cert.ReferenceIdeal Cert.ReferenceIdeal.Gen
open Idealize.ShloMosaic Idealize.ShloMosaic.ValueIdx Idealize.ShloMosaic.Routing Idealize.ShloMosaic.StackMember
open Idealize.ShloMosaic.StableHlo.Predicate

/-! ## The reference's own functions -/

/-- A column of words. -/
def colW (x : IVec S524288 32) : IVec S524288x1 32 := broadcastInDim S524288x1 ![0] bcast_S524288_S524288x1_0 x

/-- An index as jnp wraps it: negative words count from the end. -/
def wrapW (x : IVec S524288 32) (n : BitVec 32) : IVec S524288 32 :=
  select (cmpi .slt x (broadcastInDim S524288 ![] bcast_S_S524288 (constantI S_ 32 0#32))) (addi x (broadcastInDim S524288 ![] bcast_S_S524288 (constantI S_ 32 n))) x

/-- Which entries' features are inside the table. -/
def inW (ac : IVec S524288 32) : IVec S524288 1 :=
  Host.reduce IntOp.andi (andi (cmpi .sge (colW (wrapW ac 49152#32)) (broadcastInDim S524288x1 ![] bcast_S_S524288x1 (constantI S_ 32 0#32)))
    (cmpi .sle (colW (wrapW ac 49152#32)) (broadcastInDim S524288x1 ![0, 1] bcast_S1x1_S524288x1_0_1 (broadcastInDim S1x1 ![1] bcast_S1_S1x1_1 (constantI S1 32 49151#32)))))
    (constantI S_ 1 1#1) reducesTo_S524288x1_S524288_d1 h_S_

/-- The factored features: the table taken at the active features. -/
def takeW (ac : IVec S524288 32) (fm : IVec S49152 32) : IVec S524288 32 :=
  select (inW ac) (Host.gather gather_S49152_S524288x1_S524288_n_0_n_n_0_1_1 fm (colW (wrapW ac 49152#32)))
    (broadcastInDim S524288 ![] bcast_S_S524288 (constantI S_ 32 2147483648#32))

/-- The pairs of index words. -/
def pairW (bt ac : IVec S524288 32) (fm : IVec S49152 32) : IVec S524288x2 32 :=
  concatenate S524288x2 1 [⟨S524288x1, colW (wrapW bt 16384#32)⟩, ⟨S524288x1, colW (wrapW (takeW ac fm) 768#32)⟩] concatenates_S524288x1_S524288x1_S524288x2_d1

/-- The reference's dense array. -/
def refDense (bt ac : IVec S524288 32) (vl : FVec Ideal S524288 .f32) (fm : IVec S49152 32) : FVec Ideal S16384x768 .f32 :=
  Host.scatterAdd scatter_S16384x768_S524288x2_S524288_n_01_01_1 (broadcastInDim S16384x768 ![] bcast_S_S16384x768 (constant (F := Ideal) S_ .f32 0x00000000#32))
    (pairW bt ac fm) vl

/-! ## Their entries -/

theorem colW_at (x : IVec S524288 32) (p : Fin 524288) (q : Fin 1) : colW x (ix2 p q) = x (Shape.Idx.ofFin p) := by
  unfold colW broadcastInDim
  refine congrArg x (funext fun a => ?_)
  obtain rfl : a = 0 := Subsingleton.elim _ _
  rw [dif_neg (by decide)]
  rfl

theorem wrapW_at {x : IVec S524288 32} {i : S524288.Idx} (n : BitVec 32) (h : (x i).toNat < 2 ^ 31) : wrapW x n i = x i :=
  wrap_of_lt (x i) (x i + n) h

theorem inW_at {ac : IVec S524288 32} (h : ∀ i, (ac i).toNat < 49152) (i : S524288.Idx) : inW ac i = 1#1 := by
  unfold inW
  refine Host.reduce_andi_one _ _ _ _ i rfl fun k => ?_
  obtain ⟨p, q, rfl⟩ : ∃ (p : Fin 524288) (q : Fin 1), k = ix2 p q := ⟨k 0, k 1, eq_ix2 k⟩
  show IntOp.andi (IntOp.cmpi .sge (colW (wrapW ac 49152#32) (ix2 p q)) 0#32) (IntOp.cmpi .sle (colW (wrapW ac 49152#32) (ix2 p q)) 49151#32) = 1#1
  have hp := h (Shape.Idx.ofFin p)
  rw [colW_at, wrapW_at _ (by omega)]
  have e1 : IntOp.cmpi .sge (ac (Shape.Idx.ofFin p)) 0#32 = 1#1 := (sge_iff_toNat (by omega) (by decide)).mpr (Nat.zero_le _)
  have e2 : IntOp.cmpi .sle (ac (Shape.Idx.ofFin p)) 49151#32 = 1#1 := (sle_iff_toNat (by omega) (by decide)).mpr (by show _ ≤ 49151; omega)
  rw [e1, e2]
  decide

/-- An entry's factored feature: its active feature modulo 768. -/
theorem takeW_at {ac : IVec S524288 32} {fm : IVec S49152 32} (h : ∀ i, (ac i).toNat < 49152)
    (ht : ∀ n : Fin 49152, fm (Shape.Idx.ofFin n) = BitVec.ofNat 32 (n.val % 768)) (p : Fin 524288) :
    (takeW ac fm (Shape.Idx.ofFin p)).toNat = (ac (Shape.Idx.ofFin p)).toNat % 768 := by
  have hp := h (Shape.Idx.ofFin p)
  have e : takeW ac fm (Shape.Idx.ofFin p) = Scalar.select (inW ac (Shape.Idx.ofFin p))
      (Host.gather gather_S49152_S524288x1_S524288_n_0_n_n_0_1_1 fm (colW (wrapW ac 49152#32)) (Shape.Idx.ofFin p)) 2147483648#32 := rfl
  rw [e, inW_at h]
  unfold Scalar.select
  rw [if_pos (show (1#1 : BitVec 1) = 1 by decide), gather_take _ rfl rfl rfl rfl fm _ p (by decide), ht, BitVec.toNat_ofNat]
  have hw : colW (wrapW ac 49152#32) (ixP p) = ac (Shape.Idx.ofFin p) := by rw [ixP_eq_ix2, colW_at, wrapW_at _ (by omega)]
  show min (colW (wrapW ac 49152#32) (ixP p)).toInt.toNat 49151 % 768 % 2 ^ 32 = _
  rw [hw, BitVec.toInt_eq_toNat_of_lt (by omega)]
  show min (ac (Shape.Idx.ofFin p)).toNat 49151 % 768 % 2 ^ 32 = _
  omega

theorem pairW_at0 {bt ac : IVec S524288 32} (hb : ∀ i, (bt i).toNat < 16384) (fm : IVec S49152 32) (p : Fin 524288) :
    pairW bt ac fm (ix2 p (0 : Fin 2)) = bt (Shape.Idx.ofFin p) := by
  have := hb (Shape.Idx.ofFin p)
  unfold pairW
  refine (concatenate_pair_apply_left (s₁ := S524288x1) (s₂ := S524288x1) 1 _ _ _ (ix2 p (0 : Fin 2)) rfl (ix2 p (0 : Fin 1)) (fun b => by fin_cases b <;> rfl)).trans ?_
  rw [colW_at, wrapW_at _ (by omega)]

theorem pairW_at1 {bt ac : IVec S524288 32} {fm : IVec S49152 32} (p : Fin 524288) (h : (takeW ac fm (Shape.Idx.ofFin p)).toNat < 2 ^ 31) :
    pairW bt ac fm (ix2 p (1 : Fin 2)) = takeW ac fm (Shape.Idx.ofFin p) := by
  unfold pairW
  refine (concatenate_pair_apply_right (s₁ := S524288x1) (s₂ := S524288x1) 1 _ _ _ (ix2 p (1 : Fin 2)) rfl rfl (ix2 p (0 : Fin 1)) (fun b hb => ?_) rfl).trans ?_
  · fin_cases b
    · rfl
    · exact absurd rfl hb
  · rw [colW_at, wrapW_at _ h]

/-! ## The dense array -/

theorem start_row {w : ℕ} (idx : IVec S524288x2 w) (p : Fin 524288) (q : Fin 2) :
    scatter_S16384x768_S524288x2_S524288_n_01_01_1.start (Shape.Idx.ofFin p) idx q = (idx (ix2 p q)).toInt := by
  have hm : q ∈ scatter_S16384x768_S524288x2_S524288_n_01_01_1.scatterDimsToOperandDims := by
    show q ∈ ([0, 1] : List (Fin 2)); fin_cases q <;> simp
  have hsi : scatter_S16384x768_S524288x2_S524288_n_01_01_1.siIdx (Shape.Idx.ofFin p)
      ⟨scatter_S16384x768_S524288x2_S524288_n_01_01_1.scatterDimsToOperandDims.idxOf q, List.idxOf_lt_length_iff.2 hm⟩ = ix2 p q := by
    funext b
    apply Fin.ext
    match b with
    | ⟨0, _⟩ =>
      unfold ScatterDims.siIdx
      rw [dif_neg (show ¬(0 : ℕ) = scatter_S16384x768_S524288x2_S524288_n_01_01_1.indexVectorDim from Nat.zero_ne_one)]
      rfl
    | ⟨1, _⟩ =>
      unfold ScatterDims.siIdx
      rw [dif_pos (show (1 : ℕ) = scatter_S16384x768_S524288x2_S524288_n_01_01_1.indexVectorDim from rfl)]
      show List.idxOf q ([0, 1] : List (Fin 2)) = q.val
      fin_cases q <;> rfl
  unfold ScatterDims.start
  rw [dif_pos hm, hsi]

theorem window_zero (p : S524288.Idx) (q : Fin 2) : scatter_S16384x768_S524288x2_S524288_n_01_01_1.window p q = 0 := by
  unfold ScatterDims.window
  rw [dif_neg]
  intro h
  refine of_decide_eq_true (List.mem_filter.1 h).2 ?_
  show q ∈ ([0, 1] : List (Fin 2))
  fin_cases q <;> simp

/-- The reference's dense array, element by element. -/
theorem refDense_at {bt ac : IVec S524288 32} (h : InOK bt ac) (vl : FVec Ideal S524288 .f32) {fm : IVec S49152 32}
    (ht : ∀ n : Fin 49152, fm (Shape.Idx.ofFin n) = BitVec.ofNat 32 (n.val % 768)) (r : Fin 16384) (c : Fin 768) :
    (refDense bt ac vl fm (ix2 r c) : EReal) = denseS bt ac vl (ix2 r c) := by
  show (Ideal.ofBits .f32 0x00000000#32 : EReal) + ∑ p ∈ Finset.univ.filter (fun p => scatter_S16384x768_S524288x2_S524288_n_01_01_1.resultIdx? p (pairW bt ac fm) = some (ix2 r c)), (vl p : EReal) = _
  rw [Ideal.ofBits_zero_f32, zero_add, Finset.sum_filter]
  unfold denseS
  refine Finset.sum_congr rfl fun p _ => if_congr ?_ rfl rfl
  obtain ⟨p, rfl⟩ : ∃ q : Fin 524288, p = Shape.Idx.ofFin q := ⟨p 0, funext fun a => by obtain rfl : a = 0 := Subsingleton.elim _ _; rfl⟩
  have h1 := h.rng (Shape.Idx.ofFin p)
  have h2 := takeW_at h.act ht p
  have h3 : (ac (Shape.Idx.ofFin p)).toNat % 768 < 768 := Nat.mod_lt _ (by decide)
  rw [resultIdx?_ix2, start_row, start_row, window_zero, window_zero, pairW_at0 h.rng, pairW_at1 p (by omega),
    BitVec.toInt_eq_toNat_of_lt (by omega), BitVec.toInt_eq_toNat_of_lt (by omega), h2]
  show _ ↔ (bt (Shape.Idx.ofFin p)).toNat = r.val ∧ (ac (Shape.Idx.ofFin p)).toNat % 768 = c.val
  omega

/-! ## The result -/

open Idealize.ShloMosaic.TcCoe

theorem res_eq (m : (ℓ : Loc nD τ sig) → Buf (Elt Ideal) ℓ) (c : Dev nD) :
    Cert.ReferenceIdeal.Value.res_main_v16 m c = (Host.dotGeneral (φ₁ := .f32) (φ₂ := .f32) (DotDims.plain 16384 768 256) none
      (refDense (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) : FVec Ideal S16384x256 .f32) := by
  unfold Cert.ReferenceIdeal.Value.res_main_v16 refDense pairW takeW inW wrapW colW
  rfl

end Cert.Proof

end
-- ==== Proof.Value.lean ====
/-
  The values: over the reals the kernel's result is the reference's.
-/
module

public import proofs.«01_k».proof.Defs
public import proofs.«01_k».proof.Proof.Frames
public import proofs.«01_k».proof.Proof.Prod
public import proofs.«01_k».proof.Proof.Ref

@[expose] public section

noncomputable section

namespace Cert.Proof

open Idealize.ShloMosaic Idealize.ShloMosaic.ValueIdx Idealize.ShloMosaic.StackMember Idealize.SL.Sem
open Idealize.ShloMosaic.TcCoe

/-- The kernel's product of its dense array is the reference's product of its own. -/
theorem result_eq {bt ac : IVec Cert.KernelIdeal.S524288 32} (h : InOK bt ac) (vl : FVec Ideal Cert.KernelIdeal.S524288 .f32)
    {fm : IVec Cert.KernelIdeal.S49152 32} (ht : ∀ n : Fin 49152, fm (Shape.Idx.ofFin n) = BitVec.ofNat 32 (n.val % 768))
    (w : FVec Ideal Cert.KernelIdeal.S768x256 .f32) :
    (Host.dotGeneral (φ₁ := .f32) (φ₂ := .f32) (DotDims.plain 16384 768 256) none (refDense bt ac vl fm) w : FVec Ideal Cert.KernelIdeal.S16384x256 .f32)
      = mmF (F := Ideal) (denseF (tableV bt) bt ac vl) w := by
  funext i
  obtain ⟨a, b, rfl⟩ : ∃ (a : Fin 16384) (b : Fin 256), i = ix2 a b := ⟨i 0, i 1, eq_ix2 i⟩
  refine (dotGeneral_plain_apply (φ₁ := .f32) (φ₂ := .f32) none (refDense bt ac vl fm) w a b).trans ((mm_at _ w a b).trans ?_).symm
  refine Finset.sum_congr rfl fun c _ => ?_
  exact congrArg (fun x : EReal => x * (w (ix2 c b) : EReal)) ((dense_at h vl (ix2 a c)).trans (refDense_at h vl ht a c).symm)

theorem value_eq (m : (ℓ : Loc Cert.KernelIdeal.nD Cert.KernelIdeal.τ Cert.KernelIdeal.sig) → Buf (Elt Ideal) ℓ) (c : Dev Cert.KernelIdeal.nD)
    (h : InOK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) :
    V3 m c (ref Cert.KernelIdeal.main_v24) = mmF (F := Ideal)
      (denseF (tableV (m ((c.tc : Thread Cert.KernelIdeal.nD Cert.KernelIdeal.τ).loc Cert.KernelIdeal.main_arg0)))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg4)) := by
  have e0 : btV m c = m ((c.tc : Thread Cert.KernelIdeal.nD Cert.KernelIdeal.τ).loc Cert.KernelIdeal.main_arg0) := V1_arg m c _ (by decide)
  have e1 : acV m c = m ((c.tc : Thread Cert.KernelIdeal.nD Cert.KernelIdeal.τ).loc Cert.KernelIdeal.main_arg1) := V1_arg m c _ (by decide)
  have e2 : vlV m c = m ((c.tc : Thread Cert.KernelIdeal.nD Cert.KernelIdeal.τ).loc Cert.KernelIdeal.main_arg2) := V1_arg m c _ (by decide)
  have e4 : wtV m c = m ((c.tc : Thread Cert.KernelIdeal.nD Cert.KernelIdeal.τ).loc Cert.KernelIdeal.main_arg4) := V1_arg m c _ (by decide)
  refine (V3_out m c).trans ?_
  show mmF (denseF (bnV m c) (btV m c) (acV m c) (vlV m c)) (wtV m c) = _
  rw [bnV_eq, e0, e1, e2, e4]

theorem algebraic : Cert.algebraic_KernelIdeal_ReferenceIdeal_pre_indices_and_table := by
  intro m g m' g' hp hm
  have hok := fun d => ok_of_table (F := Ideal) (hp d).1 (hp d).2.1
  refine ⟨fun c => V3 m c (ref Cert.KernelIdeal.main_v24), ?_, ?_⟩
  · exact (θ_run Cert.KernelIdeal.defs _ _).mono (fun r h c => ⟨h.1 c _ (ref_uc _ rfl), frame_of m h c⟩) (run_ok m g hok)
  · refine (θ_run Cert.ReferenceIdeal.defs _ _).mono (fun r h c => ⟨(h c).1.trans ?_, (h c).2⟩) (Cert.ReferenceIdeal.Value.run m' g')
    obtain ⟨h0, h1, h2, h3, h4⟩ := hm c
    refine (res_eq m' c).trans ?_
    rw [h0, h1, h2, h3, h4]
    exact (result_eq (hok c) _ (table_of (hp c).2.2) _).trans (value_eq m c (hok c)).symm

end Cert.Proof

end
-- ==== Proof.lean ====
/-
  The claims of `Cert.Claim` (Defs.lean), put together: the frames (Proof/Frames.lean) and the values (Proof/Value.lean).
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts, preTableFacts,
  frame_kernel, frame_ideal, frame_ideal_table, frame_reference, frame_reference_table, trivial, algebraic⟩

end Cert.Proof

end
